-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInReferenceIdeal (m : (ℓ : Loc Cert.AInReferenceIdeal.nD Cert.AInReferenceIdeal.τ Cert.AInReferenceIdeal.sig) → Buf (Elt Ideal) ℓ) : Prop :=
  True

def Pre_CIn (m : (ℓ : Loc Cert.CIn.nD Cert.CIn.τ Cert.CIn.sig) → Buf (Elt Bits) ℓ) : Prop :=
  True

def Pre_CInIdeal (m : (ℓ : Loc Cert.CInIdeal.nD Cert.CInIdeal.τ Cert.CInIdeal.sig) → Buf (Elt Ideal) ℓ) : Prop :=
  True

def Pre_CInReferenceIdeal (m : (ℓ : Loc Cert.CInReferenceIdeal.nD Cert.CInReferenceIdeal.τ Cert.CInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInReferenceIdeal [hAInReferenceIdeal : Cert.AInReferenceIdeal.Facts] : Prop :=
  ∀ (m : (ℓ : Loc Cert.AInReferenceIdeal.nD Cert.AInReferenceIdeal.τ Cert.AInReferenceIdeal.sig) → Buf (Elt Ideal) ℓ) (g : Dev Cert.AInReferenceIdeal.nD → PrngReg), Pre_AInReferenceIdeal m →
    θ_run (Cert.AInReferenceIdeal.defs (F := Ideal)) (onTc (τ := Cert.AInReferenceIdeal.τ) (Cert.AInReferenceIdeal.main (F := Ideal))) ⟨m, fun _ => 0, g⟩ (fun r => (∀ c : Dev Cert.AInReferenceIdeal.nD,
      r.2.mem ((c.tc : Thread Cert.AInReferenceIdeal.nD Cert.AInReferenceIdeal.τ).loc Cert.AInReferenceIdeal.main_arg0) = m ((c.tc : Thread Cert.AInReferenceIdeal.nD Cert.AInReferenceIdeal.τ).loc Cert.AInReferenceIdeal.main_arg0)
      ∧ r.2.mem ((c.tc : Thread Cert.AInReferenceIdeal.nD Cert.AInReferenceIdeal.τ).loc Cert.AInReferenceIdeal.main_arg1) = m ((c.tc : Thread Cert.AInReferenceIdeal.nD Cert.AInReferenceIdeal.τ).loc Cert.AInReferenceIdeal.main_arg1))
      ∧ r.2.sem = fun _ => 0)

def quiescent_CIn [hCIn : Cert.CIn.Facts] : Prop :=
  ∀ (m : (ℓ : Loc Cert.CIn.nD Cert.CIn.τ Cert.CIn.sig) → Buf (Elt Bits) ℓ) (g : Dev Cert.CIn.nD → PrngReg), Pre_CIn m →
    θ_run (Cert.CIn.defs (F := Bits)) (onTc (τ := Cert.CIn.τ) (Cert.CIn.main (F := Bits))) ⟨m, fun _ => 0, g⟩ (fun r => (∀ c : Dev Cert.CIn.nD,
      r.2.mem ((c.tc : Thread Cert.CIn.nD Cert.CIn.τ).loc Cert.CIn.main_arg0) = m ((c.tc : Thread Cert.CIn.nD Cert.CIn.τ).loc Cert.CIn.main_arg0)
      ∧ r.2.mem ((c.tc : Thread Cert.CIn.nD Cert.CIn.τ).loc Cert.CIn.main_arg1) = m ((c.tc : Thread Cert.CIn.nD Cert.CIn.τ).loc Cert.CIn.main_arg1))
      ∧ r.2.sem = fun _ => 0)

def quiescent_CInIdeal [hCInIdeal : Cert.CInIdeal.Facts] : Prop :=
  ∀ (m : (ℓ : Loc Cert.CInIdeal.nD Cert.CInIdeal.τ Cert.CInIdeal.sig) → Buf (Elt Ideal) ℓ) (g : Dev Cert.CInIdeal.nD → PrngReg), Pre_CInIdeal m →
    θ_run (Cert.CInIdeal.defs (F := Ideal)) (onTc (τ := Cert.CInIdeal.τ) (Cert.CInIdeal.main (F := Ideal))) ⟨m, fun _ => 0, g⟩ (fun r => (∀ c : Dev Cert.CInIdeal.nD,
      r.2.mem ((c.tc : Thread Cert.CInIdeal.nD Cert.CInIdeal.τ).loc Cert.CInIdeal.main_arg0) = m ((c.tc : Thread Cert.CInIdeal.nD Cert.CInIdeal.τ).loc Cert.CInIdeal.main_arg0)
      ∧ r.2.mem ((c.tc : Thread Cert.CInIdeal.nD Cert.CInIdeal.τ).loc Cert.CInIdeal.main_arg1) = m ((c.tc : Thread Cert.CInIdeal.nD Cert.CInIdeal.τ).loc Cert.CInIdeal.main_arg1))
      ∧ r.2.sem = fun _ => 0)

def quiescent_CInReferenceIdeal [hCInReferenceIdeal : Cert.CInReferenceIdeal.Facts] : Prop :=
  ∀ (m : (ℓ : Loc Cert.CInReferenceIdeal.nD Cert.CInReferenceIdeal.τ Cert.CInReferenceIdeal.sig) → Buf (Elt Ideal) ℓ) (g : Dev Cert.CInReferenceIdeal.nD → PrngReg), Pre_CInReferenceIdeal m →
    θ_run (Cert.CInReferenceIdeal.defs (F := Ideal)) (onTc (τ := Cert.CInReferenceIdeal.τ) (Cert.CInReferenceIdeal.main (F := Ideal))) ⟨m, fun _ => 0, g⟩ (fun r => (∀ c : Dev Cert.CInReferenceIdeal.nD,
      r.2.mem ((c.tc : Thread Cert.CInReferenceIdeal.nD Cert.CInReferenceIdeal.τ).loc Cert.CInReferenceIdeal.main_arg0) = m ((c.tc : Thread Cert.CInReferenceIdeal.nD Cert.CInReferenceIdeal.τ).loc Cert.CInReferenceIdeal.main_arg0)
      ∧ r.2.mem ((c.tc : Thread Cert.CInReferenceIdeal.nD Cert.CInReferenceIdeal.τ).loc Cert.CInReferenceIdeal.main_arg1) = m ((c.tc : Thread Cert.CInReferenceIdeal.nD Cert.CInReferenceIdeal.τ).loc Cert.CInReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v2_0)) (v1 : (c : Dev Cert.MlpIdeal.nD) → Buf (Elt Ideal) ((c.tc : Thread Cert.MlpIdeal.nD Cert.MlpIdeal.τ).loc Cert.MlpIdeal.main_v2_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2_0) = v0 c
          ∧ r.2.mem ((c.tc : Thread Cert.MlpIdeal.nD Cert.MlpIdeal.τ).loc Cert.MlpIdeal.main_v2_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v34) = v0 c
          ∧ r.2.mem ((c.tc : Thread Cert.MlpReferenceIdeal.nD Cert.MlpReferenceIdeal.τ).loc Cert.MlpReferenceIdeal.main_v35) = v1 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v30) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_AIn_AInIdeal : Prop :=
  True

def algebraic_AInIdeal_AInReferenceIdeal [hAInIdeal : Cert.AInIdeal.Facts] [hAInReferenceIdeal : Cert.AInReferenceIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInReferenceIdeal.nD Cert.AInReferenceIdeal.τ Cert.AInReferenceIdeal.sig) → Buf (Elt Ideal) ℓ) (g' : Dev Cert.AInReferenceIdeal.nD → PrngReg), Pre_AInIdeal m →
    (∀ c : Dev Cert.AInIdeal.nD,
      m' ((c.tc : Thread Cert.AInReferenceIdeal.nD Cert.AInReferenceIdeal.τ).loc Cert.AInReferenceIdeal.main_arg0) = m ((c.tc : Thread Cert.AInIdeal.nD Cert.AInIdeal.τ).loc Cert.AInIdeal.main_arg0)
      ∧ m' ((c.tc : Thread Cert.AInReferenceIdeal.nD Cert.AInReferenceIdeal.τ).loc Cert.AInReferenceIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v0)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInReferenceIdeal.defs (F := Ideal)) (onTc (τ := Cert.AInReferenceIdeal.τ) (Cert.AInReferenceIdeal.main (F := Ideal))) ⟨m', fun _ => 0, g'⟩ (fun r => ∀ c : Dev Cert.AInReferenceIdeal.nD,
          r.2.mem ((c.tc : Thread Cert.AInReferenceIdeal.nD Cert.AInReferenceIdeal.τ).loc Cert.AInReferenceIdeal.main_v2) = v0 c
          ∧ r.2.mem ((c.tc : Thread Cert.AInReferenceIdeal.nD Cert.AInReferenceIdeal.τ).loc Cert.AInReferenceIdeal.main_arg0) = m' ((c.tc : Thread Cert.AInReferenceIdeal.nD Cert.AInReferenceIdeal.τ).loc Cert.AInReferenceIdeal.main_arg0)
          ∧ r.2.mem ((c.tc : Thread Cert.AInReferenceIdeal.nD Cert.AInReferenceIdeal.τ).loc Cert.AInReferenceIdeal.main_arg1) = m' ((c.tc : Thread Cert.AInReferenceIdeal.nD Cert.AInReferenceIdeal.τ).loc Cert.AInReferenceIdeal.main_arg1))

def preserves_CIn_CInIdeal : Prop :=
  True

def algebraic_CInIdeal_CInReferenceIdeal [hCInIdeal : Cert.CInIdeal.Facts] [hCInReferenceIdeal : Cert.CInReferenceIdeal.Facts] : Prop :=
  ∀ (m : (ℓ : Loc Cert.CInIdeal.nD Cert.CInIdeal.τ Cert.CInIdeal.sig) → Buf (Elt Ideal) ℓ) (g : Dev Cert.CInIdeal.nD → PrngReg)
    (m' : (ℓ : Loc Cert.CInReferenceIdeal.nD Cert.CInReferenceIdeal.τ Cert.CInReferenceIdeal.sig) → Buf (Elt Ideal) ℓ) (g' : Dev Cert.CInReferenceIdeal.nD → PrngReg), Pre_CInIdeal m →
    (∀ c : Dev Cert.CInIdeal.nD,
      m' ((c.tc : Thread Cert.CInReferenceIdeal.nD Cert.CInReferenceIdeal.τ).loc Cert.CInReferenceIdeal.main_arg0) = m ((c.tc : Thread Cert.CInIdeal.nD Cert.CInIdeal.τ).loc Cert.CInIdeal.main_arg0)
      ∧ m' ((c.tc : Thread Cert.CInReferenceIdeal.nD Cert.CInReferenceIdeal.τ).loc Cert.CInReferenceIdeal.main_arg1) = m ((c.tc : Thread Cert.CInIdeal.nD Cert.CInIdeal.τ).loc Cert.CInIdeal.main_arg1)) →
    ∃ (v0 : (c : Dev Cert.CInIdeal.nD) → Buf (Elt Ideal) ((c.tc : Thread Cert.CInIdeal.nD Cert.CInIdeal.τ).loc Cert.CInIdeal.main_v0)),
      θ_run (Cert.CInIdeal.defs (F := Ideal)) (onTc (τ := Cert.CInIdeal.τ) (Cert.CInIdeal.main (F := Ideal))) ⟨m, fun _ => 0, g⟩ (fun r => ∀ c : Dev Cert.CInIdeal.nD,
          r.2.mem ((c.tc : Thread Cert.CInIdeal.nD Cert.CInIdeal.τ).loc Cert.CInIdeal.main_v0) = v0 c
          ∧ r.2.mem ((c.tc : Thread Cert.CInIdeal.nD Cert.CInIdeal.τ).loc Cert.CInIdeal.main_arg0) = m ((c.tc : Thread Cert.CInIdeal.nD Cert.CInIdeal.τ).loc Cert.CInIdeal.main_arg0)
          ∧ r.2.mem ((c.tc : Thread Cert.CInIdeal.nD Cert.CInIdeal.τ).loc Cert.CInIdeal.main_arg1) = m ((c.tc : Thread Cert.CInIdeal.nD Cert.CInIdeal.τ).loc Cert.CInIdeal.main_arg1))
      ∧ θ_run (Cert.CInReferenceIdeal.defs (F := Ideal)) (onTc (τ := Cert.CInReferenceIdeal.τ) (Cert.CInReferenceIdeal.main (F := Ideal))) ⟨m', fun _ => 0, g'⟩ (fun r => ∀ c : Dev Cert.CInReferenceIdeal.nD,
          r.2.mem ((c.tc : Thread Cert.CInReferenceIdeal.nD Cert.CInReferenceIdeal.τ).loc Cert.CInReferenceIdeal.main_v3) = v0 c
          ∧ r.2.mem ((c.tc : Thread Cert.CInReferenceIdeal.nD Cert.CInReferenceIdeal.τ).loc Cert.CInReferenceIdeal.main_arg0) = m' ((c.tc : Thread Cert.CInReferenceIdeal.nD Cert.CInReferenceIdeal.τ).loc Cert.CInReferenceIdeal.main_arg0)
          ∧ r.2.mem ((c.tc : Thread Cert.CInReferenceIdeal.nD Cert.CInReferenceIdeal.τ).loc Cert.CInReferenceIdeal.main_arg1) = m' ((c.tc : Thread Cert.CInReferenceIdeal.nD Cert.CInReferenceIdeal.τ).loc Cert.CInReferenceIdeal.main_arg1))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hOut : Cert.Out.Facts) (hOutIdeal : Cert.OutIdeal.Facts) (hOutReferenceIdeal : Cert.OutReferenceIdeal.Facts) (hAIn : Cert.AIn.Facts) (hAInIdeal : Cert.AInIdeal.Facts) (hAInReferenceIdeal : Cert.AInReferenceIdeal.Facts) (hCIn : Cert.CIn.Facts) (hCInIdeal : Cert.CInIdeal.Facts) (hCInReferenceIdeal : Cert.CInReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Out (hOut := hOut)
    ∧ quiescent_OutIdeal (hOutIdeal := hOutIdeal)
    ∧ quiescent_OutReferenceIdeal (hOutReferenceIdeal := hOutReferenceIdeal)
    ∧ quiescent_AIn (hAIn := hAIn)
    ∧ quiescent_AInIdeal (hAInIdeal := hAInIdeal)
    ∧ quiescent_AInReferenceIdeal (hAInReferenceIdeal := hAInReferenceIdeal)
    ∧ quiescent_CIn (hCIn := hCIn)
    ∧ quiescent_CInIdeal (hCInIdeal := hCInIdeal)
    ∧ quiescent_CInReferenceIdeal (hCInReferenceIdeal := hCInReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Out_OutIdeal
    ∧ algebraic_OutIdeal_OutReferenceIdeal (hOutIdeal := hOutIdeal) (hOutReferenceIdeal := hOutReferenceIdeal)
    ∧ preserves_AIn_AInIdeal
    ∧ algebraic_AInIdeal_AInReferenceIdeal (hAInIdeal := hAInIdeal) (hAInReferenceIdeal := hAInReferenceIdeal)
    ∧ preserves_CIn_CInIdeal
    ∧ algebraic_CInIdeal_CInReferenceIdeal (hCInIdeal := hCInIdeal) (hCInReferenceIdeal := hCInReferenceIdeal)
-- ==== Pre_finite.lean ====
abbrev S8704x6144 : Shape := ⟨2, ![8704, 6144]⟩
abbrev S16x257 : Shape := ⟨2, ![16, 257]⟩
abbrev S8704x2048 : Shape := ⟨2, ![8704, 2048]⟩
abbrev S8192x4096 : Shape := ⟨2, ![8192, 4096]⟩
abbrev S_ : Shape := ⟨0, ![]⟩

class Facts : Prop where
  slices_S8704x6144_S8192x4096_0_0 : S8704x6144.Slices ![0, 0] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S8704x6144 .f32) (main_arg1 : FVec F S16x257 .f32) (main_arg2 : FVec F S8704x2048 .bf16) : IVec S_ 1 :=
  let main_v0 : FVec F S8192x4096 .f32 := (extractStridedSlice S8192x4096 ![0, 0] · slices_S8704x6144_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S16x257 .f32 := Host.absf main_arg1
  let main_cst_0 : FVec F S_ .f32 := constant S_ .f32 0x7F800000#32
  let main_v6 : FVec F S16x257 .f32 := broadcastInDim S16x257 ![] bcast_S_S16x257 main_cst_0
  let main_v7 : IVec S16x257 1 := cmpf .olt main_v5 main_v6
  let main_c_1 : IVec S_ 1 := constantI S_ 1 1#1
  let main_v8 : IVec S_ 1 := (fun x v => Host.reduce IntOp.andi x v reducesTo_S16x257_S_d0_1 h_S_) main_v7 main_c_1
  let main_v9 : IVec S_ 1 := andi main_v4 main_v8
  main_v9
-- ==== Kernel.lean ====
abbrev S8704x6144 : Shape := ⟨2, ![8704, 6144]⟩
abbrev S16x257 : Shape := ⟨2, ![16, 257]⟩
abbrev S8704x2048 : Shape := ⟨2, ![8704, 2048]⟩
abbrev S768 : Shape := ⟨1, ![768]⟩
abbrev S_ : Shape := ⟨0, ![]⟩
abbrev S768x1 : Shape := ⟨2, ![768, 1]⟩
abbrev S16x768 : Shape := ⟨2, ![16, 768]⟩
abbrev S16x1x768 : Shape := ⟨3, ![16, 1, 768]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S1024x2048 : Shape := ⟨2, ![1024, 2048]⟩
abbrev S512x128 : Shape := ⟨2, ![512, 128]⟩
abbrev S1x1x768 : Shape := ⟨3, ![1, 1, 768]⟩
abbrev S1024x128 : Shape := ⟨2, ![1024, 128]⟩
abbrev S1x768 : Shape := ⟨2, ![1, 768]⟩
abbrev S128x768 : Shape := ⟨2, ![128, 768]⟩
abbrev S128x256 : Shape := ⟨2, ![128, 256]⟩
abbrev S128x1024 : Shape := ⟨2, ![128, 1024]⟩
abbrev S128x128 : Shape := ⟨2, ![128, 128]⟩
abbrev S640x128 : Shape := ⟨2, ![640, 128]⟩

abbrev nBuf : Space → Nat
  | .hbm => 126
  | .vmem => 21
  | .smem => 0
  | _ => 0

abbrev bufTy : (tb : Table) → Fin (tcTables nBuf tb) → BufTy
  | .hbm, ⟨0, _⟩ => ⟨S8704x6144, .f32⟩
  | .hbm, ⟨1, _⟩ => ⟨S16x257, .f32⟩
  | .hbm, ⟨2, _⟩ => ⟨S8704x2048, .bf16⟩
  | .hbm, ⟨3, _⟩ => ⟨S768, .i32⟩
  | .hbm, ⟨4, _⟩ => ⟨S_, .i32⟩
  | .hbm, ⟨5, _⟩ => ⟨S768, .i32⟩
  | .hbm, ⟨6, _⟩ => ⟨S768, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S768, .i32⟩
  | .hbm, ⟨11, _⟩ => ⟨S768, .i32⟩
  | .hbm, ⟨12, _⟩ => ⟨S_, .i32⟩
  | .hbm, ⟨13, _⟩ => ⟨S768, .i32⟩
  | .hbm, ⟨14, _⟩ => ⟨S768, .i32⟩
  | .hbm, ⟨15, _⟩ => ⟨S_, .i32⟩
  | .hbm, ⟨16, _⟩ => ⟨S768, .i32⟩
  | .hbm, ⟨17, _⟩ => ⟨S768, .i32⟩
  | .hbm, ⟨18, _⟩ => ⟨S_, .i32⟩
  | .hbm, ⟨19, _⟩ => ⟨S768, .i32⟩
  | .hbm, ⟨20, _⟩ => ⟨S768, .i1⟩
  | .hbm, ⟨21, _⟩ => ⟨S_, .i32⟩
  | .hbm, ⟨22, _⟩ => ⟨S768, .i32⟩
  | .hbm, ⟨23, _⟩ => ⟨S768, .i32⟩
  | .hbm, ⟨24, _⟩ => ⟨S768, .i32⟩
  | .hbm, ⟨25, _⟩ => ⟨S768x1, .i32⟩
  | .hbm, ⟨26, _⟩ => ⟨S16x768, .f32⟩
  | .hbm, ⟨27, _⟩ => ⟨S16x1x768, .f32⟩
  | .hbm, ⟨28, _⟩ => ⟨S128, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S640, .i32⟩
  | .hbm, ⟨34, _⟩ => ⟨S1x640, .i32⟩
  | .hbm, ⟨35, _⟩ => ⟨S_, .i32⟩
  | .hbm, ⟨36, _⟩ => ⟨S_, .i32⟩
  | .hbm, ⟨37, _⟩ => ⟨S1x640, .i32⟩
  | .hbm, ⟨38, _⟩ => ⟨S1x640, .i32⟩
  | .hbm, ⟨39, _⟩ => ⟨S1x640, .i32⟩
  | .hbm, ⟨40, _⟩ => ⟨S_, .i32⟩
  | .hbm, ⟨41, _⟩ => ⟨S1x640, .i32⟩
  | .hbm, ⟨42, _⟩ => ⟨S1x640, .i1⟩
  | .hbm, ⟨43, _⟩ => ⟨S1x640, .i32⟩
  | .hbm, ⟨44, _⟩ => ⟨S1x640, .i32⟩
  | .hbm, ⟨45, _⟩ => ⟨S_, .i32⟩
  | .hbm, ⟨46, _⟩ => ⟨S1x640, .i32⟩
  | .hbm, ⟨47, _⟩ => ⟨S1x640, .i1⟩
  | .hbm, ⟨48, _⟩ => ⟨S1x640, .i1⟩
  | .hbm, ⟨49, _⟩ => ⟨S_, .i32⟩
  | .hbm, ⟨50, _⟩ => ⟨S1x640, .i32⟩
  | .hbm, ⟨51, _⟩ => ⟨S1x640, .i32⟩
  | .hbm, ⟨52, _⟩ => ⟨S1x640, .i32⟩
  | .hbm, ⟨53, _⟩ => ⟨S_, .i32⟩
  | .hbm, ⟨54, _⟩ => ⟨S_, .i32⟩
  | .hbm, ⟨55, _⟩ => ⟨S128x1, .i32⟩
  | .hbm, ⟨56, _⟩ => ⟨S128x1, .i32⟩
  | .hbm, ⟨57, _⟩ => ⟨S128x1, .i32⟩
  | .hbm, ⟨58, _⟩ => ⟨S_, .i32⟩
  | .hbm, ⟨59, _⟩ => ⟨S128x1, .i32⟩
  | .hbm, ⟨60, _⟩ => ⟨S128x1, .i1⟩
  | .hbm, ⟨61, _⟩ => ⟨S128x1, .i32⟩
  | .hbm, ⟨62, _⟩ => ⟨S128x1, .i32⟩
  | .hbm, ⟨63, _⟩ => ⟨S_, .i32⟩
  | .hbm, ⟨64, _⟩ => ⟨S128x1, .i32⟩
  | .hbm, ⟨65, _⟩ => ⟨S128x1, .i1⟩
  | .hbm, ⟨66, _⟩ => ⟨S128x1, .i1⟩
  | .hbm, ⟨67, _⟩ => ⟨S_, .i32⟩
  | .hbm, ⟨68, _⟩ => ⟨S128x1, .i32⟩
  | .hbm, ⟨69, _⟩ => ⟨S128x1, .i32⟩
  | .hbm, ⟨70, _⟩ => ⟨S128x1, .i32⟩
  | .hbm, ⟨71, _⟩ => ⟨S128x640, .i32⟩
  | .hbm, ⟨72, _⟩ => ⟨S128x640, .i32⟩
  | .hbm, ⟨73, _⟩ => ⟨S128x640, .i1⟩
  | .hbm, ⟨74, _⟩ => ⟨S_, .i32⟩
  | .hbm, ⟨75, _⟩ => ⟨S_, .i32⟩
  | .hbm, ⟨76, _⟩ => ⟨S1x640, .i32⟩
  | .hbm, ⟨77, _⟩ => ⟨S1x640, .i32⟩
  | .hbm, ⟨78, _⟩ => ⟨S1x640, .i32⟩
  | .hbm, ⟨79, _⟩ => ⟨S_, .i32⟩
  | .hbm, ⟨80, _⟩ => ⟨S1x640, .i32⟩
  | .hbm, ⟨81, _⟩ => ⟨S1x640, .i1⟩
  | .hbm, ⟨82, _⟩ => ⟨S1x640, .i32⟩
  | .hbm, ⟨83, _⟩ => ⟨S1x640, .i32⟩
  | .hbm, ⟨84, _⟩ => ⟨S_, .i32⟩
  | .hbm, ⟨85, _⟩ => ⟨S1x640, .i32⟩
  | .hbm, ⟨86, _⟩ => ⟨S1x640, .i1⟩
  | .hbm, ⟨87, _⟩ => ⟨S1x640, .i1⟩
  | .hbm, ⟨88, _⟩ => ⟨S_, .i32⟩
  | .hbm, ⟨89, _⟩ => ⟨S1x640, .i32⟩
  | .hbm, ⟨90, _⟩ => ⟨S1x640, .i32⟩
  | .hbm, ⟨91, _⟩ => ⟨S1x640, .i32⟩
  | .hbm, ⟨92, _⟩ => ⟨S_, .i32⟩
  | .hbm, ⟨93, _⟩ => ⟨S_, .i32⟩
  | .hbm, ⟨94, _⟩ => ⟨S128x1, .i32⟩
  | .hbm, ⟨95, _⟩ => ⟨S128x1, .i32⟩
  | .hbm, ⟨96, _⟩ => ⟨S128x1, .i32⟩
  | .hbm, ⟨97, _⟩ => ⟨S_, .i32⟩
  | .hbm, ⟨98, _⟩ => ⟨S128x1, .i32⟩
  | .hbm, ⟨99, _⟩ => ⟨S128x1, .i1⟩
  | .hbm, ⟨100, _⟩ => ⟨S128x1, .i32⟩
  | .hbm, ⟨101, _⟩ => ⟨S128x1, .i32⟩
  | .hbm, ⟨102, _⟩ => ⟨S_, .i32⟩
  | .hbm, ⟨103, _⟩ => ⟨S128x1, .i32⟩
  | .hbm, ⟨104, _⟩ => ⟨S128x1, .i1⟩
  | .hbm, ⟨105, _⟩ => ⟨S128x1, .i1⟩
  | .hbm, ⟨106, _⟩ => ⟨S_, .i32⟩
  | .hbm, ⟨107, _⟩ => ⟨S128x1, .i32⟩
  | .hbm, ⟨108, _⟩ => ⟨S128x1, .i32⟩
  | .hbm, ⟨109, _⟩ => ⟨S128x1, .i32⟩
  | .hbm, ⟨110, _⟩ => ⟨S_, .i32⟩
  | .hbm, ⟨111, _⟩ => ⟨S128x1, .i32⟩
  | .hbm, ⟨112, _⟩ => ⟨S128x1, .i32⟩
  | .hbm, ⟨113, _⟩ => ⟨S128x640, .i32⟩
  | .hbm, ⟨114, _⟩ => ⟨S128x640, .i32⟩
  | .hbm, ⟨115, _⟩ => ⟨S128x640, .i1⟩
  | .hbm, ⟨116, _⟩ => ⟨S128x640, .i1⟩
  | .hbm, ⟨117, _⟩ => ⟨S_, .f32⟩
  | .hbm, ⟨118, _⟩ => ⟨S_, .f32⟩
  | .hbm, ⟨119, _⟩ => ⟨S128x640, .f32⟩
  | .hbm, ⟨120, _⟩ => ⟨S128x640, .f32⟩
  | .hbm, ⟨121, _⟩ => ⟨S128x640, .f32⟩
  | .hbm, ⟨122, _⟩ => ⟨S128x640, .f32⟩
  | .hbm, ⟨123, _⟩ => ⟨S8704x2048, .bf16⟩
  | .hbm, ⟨124, _⟩ => ⟨S1024x2048, .f32⟩
  | .hbm, ⟨125, _⟩ => ⟨S1024x2048, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x1x768, .f32⟩
  | .local _ .vmem, ⟨11, _⟩ => ⟨S1x1x768, .f32⟩
  | .local _ .vmem, ⟨12, _⟩ => ⟨S128x640, .f32⟩
  | .local _ .vmem, ⟨13, _⟩ => ⟨S512x128, .bf16⟩
  | .local _ .vmem, ⟨14, _⟩ => ⟨S512x128, .bf16⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S1024x128, .bf16⟩
  | .local _ .vmem, ⟨20, _⟩ => ⟨S1024x128, .bf16⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_c_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v20 : Ref sig .tc := ⟨.hbm, 52, rfl⟩
abbrev main_c_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_c_8 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_c : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_0 : Ref sig .tc := ⟨.hbm, 88, rfl⟩
abbrev main_call3_v12 : Ref sig .tc := ⟨.hbm, 89, rfl⟩
abbrev main_call3_v13 : Ref sig .tc := ⟨.hbm, 90, rfl⟩
abbrev main_v25 : Ref sig .tc := ⟨.hbm, 91, rfl⟩
abbrev main_c_9 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_c : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_0 : Ref sig .tc := ⟨.hbm, 106, rfl⟩
abbrev main_call4_v12 : Ref sig .tc := ⟨.hbm, 107, rfl⟩
abbrev main_call4_v13 : Ref sig .tc := ⟨.hbm, 108, rfl⟩
abbrev main_v26 : Ref sig .tc := ⟨.hbm, 109, rfl⟩
abbrev main_c_10 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_cst : Ref sig .tc := ⟨.hbm, 117, rfl⟩
abbrev main_cst_11 : Ref sig .tc := ⟨.hbm, 118, rfl⟩
abbrev main_call5_v0 : Ref sig .tc := ⟨.hbm, 119, rfl⟩
abbrev main_call5_v1 : Ref sig .tc := ⟨.hbm, 120, rfl⟩
abbrev main_v33 : Ref sig .tc := ⟨.hbm, 121, rfl⟩
abbrev main_v34 : Ref sig .tc := ⟨.hbm, 122, rfl⟩
abbrev main_v35_0 : Ref sig .tc := ⟨.hbm, 123, rfl⟩
abbrev main_v35_1 : Ref sig .tc := ⟨.hbm, 124, rfl⟩
abbrev main_v35_2 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 16, 8], ![false, false, false]⟩

def k0_cond1 (i : grid0.Coords) : BitVec 1 :=
  let arg2 : BitVec 32 := BitVec.ofNat 32 (i 2).val
  let c7_i32 : BitVec 32 := 7#32
  let v0 : BitVec 1 := Scalar.cmpi .eq arg2 c7_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c16_i32 : BitVec 32 := 16#32
  let v4 : BitVec 32 := Scalar.addi c16_i32 arg1
  let c0_i32_0 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c32_i32 : BitVec 32 := 32#32
  let v4 : BitVec 32 := Scalar.addi c32_i32 arg1
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S128x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "log2e" => some (((Real.log 2)⁻¹ : ℝ) : EReal)
  | "qscale" => some (((Real.sqrt 128)⁻¹ * (Real.log 2)⁻¹ : ℝ) : EReal)
  | _ => none
-- ==== ReferenceIdeal.lean ====
abbrev S8704x6144 : Shape := ⟨2, ![8704, 6144]⟩
abbrev S16x257 : Shape := ⟨2, ![16, 257]⟩
abbrev S8704x2048 : Shape := ⟨2, ![8704, 2048]⟩
abbrev S8192x6144 : Shape := ⟨2, ![8192, 6144]⟩
abbrev S2x4096x6144 : Shape := ⟨3, ![2, 4096, 6144]⟩
abbrev S2x4096x2048 : Shape := ⟨3, ![2, 4096, 2048]⟩
abbrev S2x4096x16x128 : Shape := ⟨4, ![2, 4096, 16, 128]⟩
abbrev S4096 : Shape := ⟨1, ![4096]⟩
abbrev S2x16x4096x4096 : Shape := ⟨4, ![2, 16, 4096, 4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S16x4096x4096 : Shape := ⟨3, ![16, 4096, 4096]⟩
abbrev S1x16x4096x4096 : Shape := ⟨4, ![1, 16, 4096, 4096]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S8192x2048 : Shape := ⟨2, ![8192, 2048]⟩
abbrev S512x2048 : Shape := ⟨2, ![512, 2048]⟩
abbrev S2x512x16x128 : Shape := ⟨4, ![2, 512, 16, 128]⟩
abbrev S1024x2048 : Shape := ⟨2, ![1024, 2048]⟩

abbrev nBuf : Space → Nat
  | .hbm => 132
  | .vmem => 0
  | .smem => 0
  | _ => 0

abbrev hbmTy0_0 (i : Nat) : BufTy := match i % 128 with
  | 0 => ⟨S8704x6144, .f32⟩
  | 1 => ⟨S16x257, .f32⟩
  | 2 => ⟨S8704x2048, .bf16⟩
  | 3 => ⟨S8192x6144, .f32⟩
  | 4 => ⟨S2x4096x6144, .f32⟩
  | 5 => ⟨S2x4096x2048, .f32⟩
  | 6 => ⟨S2x4096x16x128, .f32⟩
  | 7 => ⟨S2x4096x2048, .f32⟩
  | 8 => ⟨S2x4096x16x128, .f32⟩
  | 9 => ⟨S2x4096x2048, .f32⟩
  | 10 => ⟨S2x4096x16x128, .f32⟩
  | 11 => ⟨S4096, .i32⟩
  | 12 => ⟨S4096, .i32⟩
  | 13 => ⟨S2x16x4096x4096, .f32⟩
  | 14 => ⟨S_, .f32⟩
  | 15 => ⟨S_, .f32⟩
  | 16 => ⟨S2x16x4096x4096, .f32⟩
  | 17 => ⟨S2x16x4096x4096, .f32⟩
  | 18 => ⟨S4096x1, .i32⟩
  | 19 => ⟨S1x4096, .i32⟩
  | 20 => ⟨S4096x4096, .i32⟩
  | 21 => ⟨S4096x4096, .i32⟩
  | 22 => ⟨S4096x4096, .i32⟩
  | 23 => ⟨S_, .i32⟩
  | 24 => ⟨S_, .i32⟩
  | 25 => ⟨S_, .i32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S_, .i32⟩
  | 32 => ⟨S4096x4096, .i32⟩
  | 33 => ⟨S4096x4096, .i32⟩
  | 34 => ⟨S_, .i32⟩
  | 35 => ⟨S4096x4096, .i32⟩
  | 36 => ⟨S4096x4096, .i1⟩
  | 37 => ⟨S_, .i32⟩
  | 38 => ⟨S4096x4096, .i32⟩
  | 39 => ⟨S4096x4096, .i32⟩
  | 40 => ⟨S4096x4096, .i32⟩
  | 41 => ⟨S4096x4096x1, .i32⟩
  | 42 => ⟨S16x4096x4096, .f32⟩
  | 43 => ⟨S1x16x4096x4096, .f32⟩
  | 44 => ⟨S2x16x4096x4096, .f32⟩
  | 45 => ⟨S2x16x4096x4096, .f32⟩
  | 46 => ⟨S_, .i32⟩
  | 47 => ⟨S_, .i32⟩
  | 48 => ⟨S4096, .i32⟩
  | 49 => ⟨S4096, .i32⟩
  | 50 => ⟨S4096, .i32⟩
  | 51 => ⟨S_, .i32⟩
  | 52 => ⟨S4096, .i32⟩
  | 53 => ⟨S4096, .i1⟩
  | 54 => ⟨S4096, .i32⟩
  | 55 => ⟨S4096, .i32⟩
  | 56 => ⟨S_, .i32⟩
  | 57 => ⟨S4096, .i32⟩
  | 58 => ⟨S4096, .i1⟩
  | 59 => ⟨S4096, .i1⟩
  | 60 => ⟨S_, .i32⟩
  | 61 => ⟨S4096, .i32⟩
  | 62 => ⟨S4096, .i32⟩
  | 63 => ⟨S4096, .i32⟩
  | 64 => ⟨S_, .i32⟩
  | 65 => ⟨S_, .i32⟩
  | 66 => ⟨S4096, .i32⟩
  | 67 => ⟨S4096, .i32⟩
  | 68 => ⟨S4096, .i32⟩
  | 69 => ⟨S_, .i32⟩
  | 70 => ⟨S4096, .i32⟩
  | 71 => ⟨S4096, .i1⟩
  | 72 => ⟨S4096, .i32⟩
  | 73 => ⟨S4096, .i32⟩
  | 74 => ⟨S_, .i32⟩
  | 75 => ⟨S4096, .i32⟩
  | 76 => ⟨S4096, .i1⟩
  | 77 => ⟨S4096, .i1⟩
  | 78 => ⟨S_, .i32⟩
  | 79 => ⟨S4096, .i32⟩
  | 80 => ⟨S4096, .i32⟩
  | 81 => ⟨S4096, .i32⟩
  | 82 => ⟨S1x4096, .i32⟩
  | 83 => ⟨S_, .i32⟩
  | 84 => ⟨S1x4096, .i32⟩
  | 85 => ⟨S1x4096, .i1⟩
  | 86 => ⟨S1x4096, .i32⟩
  | 87 => ⟨S4096x1, .i32⟩
  | 88 => ⟨S4096x4096, .i32⟩
  | 89 => ⟨S4096x4096, .i32⟩
  | 90 => ⟨S4096x4096, .i1⟩
  | 91 => ⟨S4096x4096, .i1⟩
  | 92 => ⟨S4096x4096, .i1⟩
  | 93 => ⟨S1x4096, .i32⟩
  | 94 => ⟨S4096x1, .i32⟩
  | 95 => ⟨S_, .i32⟩
  | 96 => ⟨S4096x1, .i32⟩
  | 97 => ⟨S4096x1, .i32⟩
  | 98 => ⟨S4096x4096, .i32⟩
  | 99 => ⟨S4096x4096, .i32⟩
  | 100 => ⟨S4096x4096, .i1⟩
  | 101 => ⟨S4096x4096, .i1⟩
  | 102 => ⟨S1x1x4096x4096, .i1⟩
  | 103 => ⟨S_, .f32⟩
  | 104 => ⟨S_, .f32⟩
  | 105 => ⟨S2x16x4096x4096, .i1⟩
  | 106 => ⟨S2x16x4096x4096, .f32⟩
  | 107 => ⟨S2x16x4096x4096, .f32⟩
  | 108 => ⟨S_, .f32⟩
  | 109 => ⟨S2x16x4096, .f32⟩
  | 110 => ⟨S_, .f32⟩
  | 111 => ⟨S2x16x4096, .f32⟩
  | 112 => ⟨S2x16x4096, .f32⟩
  | 113 => ⟨S2x16x4096x1, .f32⟩
  | 114 => ⟨S2x16x4096x4096, .f32⟩
  | 115 => ⟨S2x16x4096x4096, .f32⟩
  | 116 => ⟨S2x16x4096x4096, .f32⟩
  | 117 => ⟨S_, .f32⟩
  | 118 => ⟨S2x16x4096, .f32⟩
  | 119 => ⟨S2x16x4096x1, .f32⟩
  | 120 => ⟨S2x16x4096x4096, .f32⟩
  | 121 => ⟨S2x16x4096x4096, .f32⟩
  | 122 => ⟨S2x16x128x4096, .f32⟩
  | 123 => ⟨S2x4096x16x128, .f32⟩
  | 124 => ⟨S8192x2048, .f32⟩
  | 125 => ⟨S8192x2048, .bf16⟩
  | 126 => ⟨S512x2048, .bf16⟩
  | 127 => ⟨S8704x2048, .bf16⟩
  | _ => ⟨S8704x6144, .f32⟩

abbrev hbmTy0_1 (i : Nat) : BufTy := match i % 128 with
  | 0 => ⟨S2x512x16x128, .f32⟩
  | 1 => ⟨S1024x2048, .f32⟩
  | 2 => ⟨S2x512x16x128, .f32⟩
  | 3 => ⟨S1024x2048, .f32⟩
  | _ => ⟨S8704x6144, .f32⟩

abbrev hbmTy (i : Nat) : BufTy := match i / 128 with
  | 0 => hbmTy0_0 i
  | 1 => hbmTy0_1 i
  | _ => ⟨S8704x6144, .f32⟩

abbrev bufTy : (tb : Table) → Fin (tcTables nBuf tb) → BufTy
  | .hbm, ⟨i, _⟩ => hbmTy i
  | _, _ => ⟨S8704x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v32 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v33 : Ref sig .tc := ⟨.hbm, 81, rfl⟩
abbrev main_v34 : Ref sig .tc := ⟨.hbm, 82, rfl⟩
abbrev main_c_6 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_c_7 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_8 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v53 : Ref sig .tc := ⟨.hbm, 107, rfl⟩
abbrev main_cst_9 : Ref sig .tc := ⟨.hbm, 108, rfl⟩
abbrev main_v54 : Ref sig .tc := ⟨.hbm, 109, rfl⟩
abbrev main_cst_10 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_cst_11 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩

abbrev nD : Nat := 1
abbrev τ : Topo := Topo.v7x

variable {F : FTy → Type} [FloatOps F]
-- ==== Mlp.lean ====
abbrev S8704x2048 : Shape := ⟨2, ![8704, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S1088x2048 : Shape := ⟨2, ![1088, 2048]⟩
abbrev S1x2048x512 : Shape := ⟨3, ![1, 2048, 512]⟩
abbrev S1x512x2048 : Shape := ⟨3, ![1, 512, 2048]⟩
abbrev S2048x512 : Shape := ⟨2, ![2048, 512]⟩
abbrev S1088x512 : Shape := ⟨2, ![1088, 512]⟩
abbrev S512x2048 : Shape := ⟨2, ![512, 2048]⟩
abbrev S272x2048 : Shape := ⟨2, ![272, 2048]⟩
abbrev S272 : Shape := ⟨1, ![272]⟩
abbrev S272x1 : Shape := ⟨2, ![272, 1]⟩

abbrev nBuf : Space → Nat
  | .hbm => 9
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S4x2048x8192, .f32⟩
  | .hbm, ⟨2, _⟩ => ⟨S4x8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8704x2048, .f32⟩
  | .hbm, ⟨8, _⟩ => ⟨S8704x2048, .bf16⟩
  | .local _ .vmem, ⟨0, _⟩ => ⟨S1088x2048, .f32⟩
  | .local _ .vmem, ⟨1, _⟩ => ⟨S1088x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1x2048, .f32⟩
  | .local _ .vmem, ⟨7, _⟩ => ⟨S1x2048, .f32⟩
  | .local _ .vmem, ⟨8, _⟩ => ⟨S1088x2048, .f32⟩
  | .local _ .vmem, ⟨9, _⟩ => ⟨S1088x2048, .bf16⟩
  | .local _ .vmem, ⟨10, _⟩ => ⟨S1088x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_14 : BitVec 32 := 0#32
  let v22 : BitVec 1 := Scalar.cmpi .ne v21 c0_i32_14
  v22

def k0_mult1 : BitVec 32 :=
  let c0_i32_15 : BitVec 32 := 0#32
  let c272_i32 : BitVec 32 := 272#32
  let v23 : BitVec 32 := Scalar.muli c0_i32_15 c272_i32
  v23
def k0_off1 (c0_i32_15 : BitVec 32) : Fin 2 → Nat :=
  let c272_i32 : BitVec 32 := 272#32
  let v23 : BitVec 32 := Scalar.muli c0_i32_15 c272_i32
  let v24 : BitVec 32 := v23
  let v25 : Index := Scalar.indexCast v24
  let c0_16 : Index := 0#32
  ![v25.toNat, 0]
def k0_mult2 : BitVec 32 :=
  let c1_i32 : BitVec 32 := 1#32
  let c272_i32_30 : BitVec 32 := 272#32
  let v62 : BitVec 32 := Scalar.muli c1_i32 c272_i32_30
  v62
def k0_mult3 : BitVec 32 :=
  let c2_i32 : BitVec 32 := 2#32
  let c272_i32_45 : BitVec 32 := 272#32
  let v101 : BitVec 32 := Scalar.muli c2_i32 c272_i32_45
  v101
def k0_mult4 : BitVec 32 :=
  let c3_i32 : BitVec 32 := 3#32
  let c272_i32_60 : BitVec 32 := 272#32
  let v140 : BitVec 32 := Scalar.muli c3_i32 c272_i32_60
  v140
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1088x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1088x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== MlpReferenceIdeal.lean ====
abbrev S8704x2048 : Shape := ⟨2, ![8704, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048x8192 : Shape := ⟨3, ![1, 2048, 8192]⟩
abbrev S2048x8192 : Shape := ⟨2, ![2048, 8192]⟩
abbrev S8704x8192 : Shape := ⟨2, ![8704, 8192]⟩
abbrev S_ : Shape := ⟨0, ![]⟩
abbrev S1x8192x2048 : Shape := ⟨3, ![1, 8192, 2048]⟩
abbrev S8192x2048 : Shape := ⟨2, ![8192, 2048]⟩
abbrev S8704 : Shape := ⟨1, ![8704]⟩
abbrev S8704x1 : Shape := ⟨2, ![8704, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x2048x8192, .f32⟩
  | .hbm, ⟨2, _⟩ => ⟨S4x8192x2048, .f32⟩
  | .hbm, ⟨3, _⟩ => ⟨S2048, .f32⟩
  | .hbm, ⟨4, _⟩ => ⟨S2048, .f32⟩
  | .hbm, ⟨5, _⟩ => ⟨S1x2048x8192, .f32⟩
  | .hbm, ⟨6, _⟩ => ⟨S2048x8192, .f32⟩
  | .hbm, ⟨7, _⟩ => ⟨S8704x8192, .f32⟩
  | .hbm, ⟨8, _⟩ => ⟨S_, .f32⟩
  | .hbm, ⟨9, _⟩ => ⟨S8704x8192, .f32⟩
  | .hbm, ⟨10, _⟩ => ⟨S8704x8192, .f32⟩
  | .hbm, ⟨11, _⟩ => ⟨S_, .f32⟩
  | .hbm, ⟨12, _⟩ => ⟨S8704x2048, .f32⟩
  | .hbm, ⟨13, _⟩ => ⟨S8704x2048, .f32⟩
  | .hbm, ⟨14, _⟩ => ⟨S8704x8192, .f32⟩
  | .hbm, ⟨15, _⟩ => ⟨S1x8192x2048, .f32⟩
  | .hbm, ⟨16, _⟩ => ⟨S8192x2048, .f32⟩
  | .hbm, ⟨17, _⟩ => ⟨S8704x2048, .f32⟩
  | .hbm, ⟨18, _⟩ => ⟨S8704x2048, .f32⟩
  | .hbm, ⟨19, _⟩ => ⟨S_, .f32⟩
  | .hbm, ⟨20, _⟩ => ⟨S8704, .f32⟩
  | .hbm, ⟨21, _⟩ => ⟨S8704x1, .f32⟩
  | .hbm, ⟨22, _⟩ => ⟨S_, .f32⟩
  | .hbm, ⟨23, _⟩ => ⟨S8704x1, .f32⟩
  | .hbm, ⟨24, _⟩ => ⟨S8704x1, .f32⟩
  | .hbm, ⟨25, _⟩ => ⟨S8704x2048, .f32⟩
  | .hbm, ⟨26, _⟩ => ⟨S8704x2048, .f32⟩
  | .hbm, ⟨27, _⟩ => ⟨S8704x2048, .f32⟩
  | .hbm, ⟨28, _⟩ => ⟨S_, .f32⟩
  | .hbm, ⟨29, _⟩ => ⟨S8704, .f32⟩
  | .hbm, ⟨30, _⟩ => ⟨S8704x1, .f32⟩
  | .hbm, ⟨31, _⟩ => ⟨S_, .f32⟩
  | .hbm, ⟨32, _⟩ => ⟨S8704x1, .f32⟩
  | .hbm, ⟨33, _⟩ => ⟨S8704x1, .f32⟩
  | .hbm, ⟨34, _⟩ => ⟨S8704x2048, .f32⟩
  | .hbm, ⟨35, _⟩ => ⟨S8704x2048, .f32⟩
  | .hbm, ⟨36, _⟩ => ⟨S_, .f32⟩
  | .hbm, ⟨37, _⟩ => ⟨S8704x1, .f32⟩
  | .hbm, ⟨38, _⟩ => ⟨S8704x1, .f32⟩
  | .hbm, ⟨39, _⟩ => ⟨S8704x1, .f32⟩
  | .hbm, ⟨40, _⟩ => ⟨S8704x2048, .f32⟩
  | .hbm, ⟨41, _⟩ => ⟨S8704x2048, .f32⟩
  | .hbm, ⟨42, _⟩ => ⟨S1x2048, .f32⟩
  | .hbm, ⟨43, _⟩ => ⟨S8704x2048, .f32⟩
  | .hbm, ⟨44, _⟩ => ⟨S8704x2048, .f32⟩
  | .hbm, ⟨45, _⟩ => ⟨S1x2048, .f32⟩
  | .hbm, ⟨46, _⟩ => ⟨S8704x2048, .f32⟩
  | .hbm, ⟨47, _⟩ => ⟨S8704x2048, .f32⟩
  | .hbm, ⟨48, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Out.lean ====
abbrev S8704x2048 : Shape := ⟨2, ![8704, 2048]⟩
abbrev S2x2048x2048 : Shape := ⟨3, ![2, 2048, 2048]⟩
abbrev S2048 : Shape := ⟨1, ![2048]⟩
abbrev S1x2048 : Shape := ⟨2, ![1, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 11
  | .smem => 0
  | _ => 0

abbrev bufTy : (tb : Table) → Fin (tcTables nBuf tb) → BufTy
  | .hbm, ⟨0, _⟩ => ⟨S8704x2048, .bf16⟩
  | .hbm, ⟨1, _⟩ => ⟨S2x2048x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S2x2048x2048, .bf16⟩
  | .hbm, ⟨6, _⟩ => ⟨S1x2048, .f32⟩
  | .hbm, ⟨7, _⟩ => ⟨S1x2048, .f32⟩
  | .hbm, ⟨8, _⟩ => ⟨S8704x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![17, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

@[reducible] def k0_t1_loop : Scf.Loop 32 :=
  let c0_i32_10 : BitVec 32 := 0#32
  let c4_i32 : BitVec 32 := 4#32
  let v15 : BitVec 32 := Scalar.addi c0_i32_10 c4_i32
  let c1_i32_11 : BitVec 32 := 1#32
  ⟨c0_i32_10, v15, c1_i32_11⟩
def k0_mult1 (k0_t1 : Fin k0_t1_loop.trips) : BitVec 32 :=
  let c0_i32_10 : BitVec 32 := 0#32
  let c1_i32_11 : BitVec 32 := 1#32
  let arg9 : BitVec 32 := Scf.iv c0_i32_10 c1_i32_11 k0_t1
  let c128_i32 : BitVec 32 := 128#32
  let v16 : BitVec 32 := Scalar.muli arg9 c128_i32
  v16
def k0_off1 (k0_t1 : Fin k0_t1_loop.trips) : Fin 2 → Nat :=
  let c0_i32_10 : BitVec 32 := 0#32
  let c1_i32_11 : BitVec 32 := 1#32
  let arg9 : BitVec 32 := Scf.iv c0_i32_10 c1_i32_11 k0_t1
  let c128_i32 : BitVec 32 := 128#32
  let v16 : BitVec 32 := Scalar.muli arg9 c128_i32
  let v17 : BitVec 32 := v16
  let v18 : Index := Scalar.indexCast v17
  let c0_13 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutReferenceIdeal.lean ====
abbrev S8704x2048 : Shape := ⟨2, ![8704, 2048]⟩
abbrev S2x2048x2048 : Shape := ⟨3, ![2, 2048, 2048]⟩
abbrev S2048 : Shape := ⟨1, ![2048]⟩
abbrev S_ : Shape := ⟨0, ![]⟩
abbrev S1x2048x2048 : Shape := ⟨3, ![1, 2048, 2048]⟩
abbrev S2048x2048 : Shape := ⟨2, ![2048, 2048]⟩
abbrev S8704 : Shape := ⟨1, ![8704]⟩
abbrev S8704x1 : Shape := ⟨2, ![8704, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S1x2048x2048, .f32⟩
  | .hbm, ⟨10, _⟩ => ⟨S2048x2048, .f32⟩
  | .hbm, ⟨11, _⟩ => ⟨S8704x2048, .f32⟩
  | .hbm, ⟨12, _⟩ => ⟨S8704x2048, .f32⟩
  | .hbm, ⟨13, _⟩ => ⟨S_, .f32⟩
  | .hbm, ⟨14, _⟩ => ⟨S8704, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x2048, .f32⟩
  | .hbm, ⟨20, _⟩ => ⟨S8704x2048, .f32⟩
  | .hbm, ⟨21, _⟩ => ⟨S8704x2048, .f32⟩
  | .hbm, ⟨22, _⟩ => ⟨S_, .f32⟩
  | .hbm, ⟨23, _⟩ => ⟨S8704, .f32⟩
  | .hbm, ⟨24, _⟩ => ⟨S8704x1, .f32⟩
  | .hbm, ⟨25, _⟩ => ⟨S_, .f32⟩
  | .hbm, ⟨26, _⟩ => ⟨S8704x1, .f32⟩
  | .hbm, ⟨27, _⟩ => ⟨S8704x1, .f32⟩
  | .hbm, ⟨28, _⟩ => ⟨S8704x2048, .f32⟩
  | .hbm, ⟨29, _⟩ => ⟨S8704x2048, .f32⟩
  | .hbm, ⟨30, _⟩ => ⟨S_, .f32⟩
  | .hbm, ⟨31, _⟩ => ⟨S8704x1, .f32⟩
  | .hbm, ⟨32, _⟩ => ⟨S8704x1, .f32⟩
  | .hbm, ⟨33, _⟩ => ⟨S8704x1, .f32⟩
  | .hbm, ⟨34, _⟩ => ⟨S8704x2048, .f32⟩
  | .hbm, ⟨35, _⟩ => ⟨S8704x2048, .f32⟩
  | .hbm, ⟨36, _⟩ => ⟨S1x2048, .f32⟩
  | .hbm, ⟨37, _⟩ => ⟨S8704x2048, .f32⟩
  | .hbm, ⟨38, _⟩ => ⟨S8704x2048, .f32⟩
  | .hbm, ⟨39, _⟩ => ⟨S1x2048, .f32⟩
  | .hbm, ⟨40, _⟩ => ⟨S8704x2048, .f32⟩
  | .hbm, ⟨41, _⟩ => ⟨S8704x2048, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== AIn.lean ====
abbrev S8704x2048 : Shape := ⟨2, ![8704, 2048]⟩
abbrev S2x2048x6144 : Shape := ⟨3, ![2, 2048, 6144]⟩
abbrev S8704x6144 : Shape := ⟨2, ![8704, 6144]⟩
abbrev S512x2048 : Shape := ⟨2, ![512, 2048]⟩
abbrev S1x2048x1536 : Shape := ⟨3, ![1, 2048, 1536]⟩
abbrev S512x1536 : Shape := ⟨2, ![512, 1536]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S2x2048x6144, .f32⟩
  | .hbm, ⟨2, _⟩ => ⟨S8704x6144, .f32⟩
  | .local _ .vmem, ⟨0, _⟩ => ⟨S512x2048, .f32⟩
  | .local _ .vmem, ⟨1, _⟩ => ⟨S512x2048, .f32⟩
  | .local _ .vmem, ⟨2, _⟩ => ⟨S1x2048x1536, .f32⟩
  | .local _ .vmem, ⟨3, _⟩ => ⟨S1x2048x1536, .f32⟩
  | .local _ .vmem, ⟨4, _⟩ => ⟨S512x1536, .f32⟩
  | .local _ .vmem, ⟨5, _⟩ => ⟨S512x1536, .f32⟩
  | .local _ .vmem, ⟨6, _⟩ => ⟨S2048x1536, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AInReferenceIdeal.lean ====
abbrev S8704x2048 : Shape := ⟨2, ![8704, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8704x6144 : Shape := ⟨2, ![8704, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048x6144, .f32⟩
  | .hbm, ⟨2, _⟩ => ⟨S1x2048x6144, .f32⟩
  | .hbm, ⟨3, _⟩ => ⟨S2048x6144, .f32⟩
  | .hbm, ⟨4, _⟩ => ⟨S8704x6144, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CIn.lean ====
abbrev S8704x2048 : Shape := ⟨2, ![8704, 2048]⟩
abbrev S1x2048x12352 : Shape := ⟨3, ![1, 2048, 12352]⟩
abbrev S8704x12288 : Shape := ⟨2, ![8704, 12288]⟩
abbrev S512x2048 : Shape := ⟨2, ![512, 2048]⟩
abbrev S1x2048x1536 : Shape := ⟨3, ![1, 2048, 1536]⟩
abbrev S512x1536 : Shape := ⟨2, ![512, 1536]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x12352, .f32⟩
  | .hbm, ⟨2, _⟩ => ⟨S8704x12288, .f32⟩
  | .local _ .vmem, ⟨0, _⟩ => ⟨S512x2048, .bf16⟩
  | .local _ .vmem, ⟨1, _⟩ => ⟨S512x2048, .bf16⟩
  | .local _ .vmem, ⟨2, _⟩ => ⟨S1x2048x1536, .f32⟩
  | .local _ .vmem, ⟨3, _⟩ => ⟨S1x2048x1536, .f32⟩
  | .local _ .vmem, ⟨4, _⟩ => ⟨S512x1536, .f32⟩
  | .local _ .vmem, ⟨5, _⟩ => ⟨S512x1536, .f32⟩
  | .local _ .vmem, ⟨6, _⟩ => ⟨S2048x1536, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CInReferenceIdeal.lean ====
abbrev S8704x2048 : Shape := ⟨2, ![8704, 2048]⟩
abbrev S1x2048x12352 : Shape := ⟨3, ![1, 2048, 12352]⟩
abbrev S1x2048x12288 : Shape := ⟨3, ![1, 2048, 12288]⟩
abbrev S2048x12288 : Shape := ⟨2, ![2048, 12288]⟩
abbrev S8704x12288 : Shape := ⟨2, ![8704, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x12352, .f32⟩
  | .hbm, ⟨2, _⟩ => ⟨S8704x2048, .f32⟩
  | .hbm, ⟨3, _⟩ => ⟨S1x2048x12288, .f32⟩
  | .hbm, ⟨4, _⟩ => ⟨S2048x12288, .f32⟩
  | .hbm, ⟨5, _⟩ => ⟨S8704x12288, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Words.lean ====
/- Facts about the 32-bit words the programs compute positions with: the chunk number of a position, the clipped
   distance between a query and a key, and the comparisons of a mask. -/
module

public import Idealize.ShloMosaic.Lib.ValueIdx
public import Idealize.ShloMosaic.Lib.Pipeline.Value
public import Idealize.ShloMosaic.PureOps.Ideal.Laws

@[expose] public section

namespace Cert.Words

open Idealize.ShloMosaic

/-- The sign of a word. -/
def sgn (x : BitVec 32) : BitVec 32 := if x = 0 then 0 else if x.msb then -1 else 1

/-- Division by 64 rounded down, from the division rounded toward zero. -/
def fdiv (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

/-- The chunk of a position below 4096. -/
theorem fdiv_ofNat : ∀ n : Fin 4096, fdiv (BitVec.ofNat 32 n.val) = BitVec.ofNat 32 (n.val / 64) := by
  decide +kernel

/-- The index into the table of biases: the distance clipped to 128 either way, plus 128, a negative one wrapped. -/
def relW (x : BitVec 32) : BitVec 32 :=
  Scalar.select (IntOp.cmpi .slt (IntOp.addi (IntOp.minsi 128#32 (IntOp.maxsi 4294967168#32 x)) 128#32) 0#32)
    (IntOp.addi (IntOp.addi (IntOp.minsi 128#32 (IntOp.maxsi 4294967168#32 x)) 128#32) 257#32)
    (IntOp.addi (IntOp.minsi 128#32 (IntOp.maxsi 4294967168#32 x)) 128#32)

/-- The index for the distance `e − 4096`. -/
theorem relW_ofNat : ∀ e : Fin 8192, min (relW (BitVec.ofNat 32 e.val - 4096#32)).toInt.toNat 256 = min 256 (e.val - 3968) := by
  decide +kernel

/-- The word of a difference of two positions. -/
theorem sub_ofNat (q k : Nat) (hk : k ≤ 4096) :
    BitVec.ofNat 32 q - BitVec.ofNat 32 k = BitVec.ofNat 32 (q + 4096 - k) - 4096#32 := by
  rw [show q + 4096 - k = q + (4096 - k) by omega, BitVec.ofNat_add]
  have : BitVec.ofNat 32 4096 = BitVec.ofNat 32 (4096 - k) + BitVec.ofNat 32 k := by
    rw [← BitVec.ofNat_add]; congr 1; omega
  rw [show (4096#32) = BitVec.ofNat 32 (4096 - k) + BitVec.ofNat 32 k from this]
  generalize BitVec.ofNat 32 (4096 - k) = a
  generalize BitVec.ofNat 32 q = b
  generalize BitVec.ofNat 32 k = c
  apply BitVec.eq_of_toNat_eq
  simp only [BitVec.toNat_sub, BitVec.toNat_add]
  omega

/-- A position's word is not negative. -/
theorem sge_zero : ∀ n : Fin 4096, IntOp.cmpi .sge (BitVec.ofNat 32 n.val) 0#32 = 1#1 := by
  decide +kernel

/-- Chunk `k` is at most chunk `q`. -/
theorem sle_chunk : ∀ k q : Fin 64, IntOp.cmpi .sle (BitVec.ofNat 32 k.val) (BitVec.ofNat 32 q.val)
    = if k.val ≤ q.val then 1#1 else 0#1 := by
  decide +kernel

/-- Chunk `k` is at least chunk `q` less eight. -/
theorem sge_chunk : ∀ k q : Fin 64, IntOp.cmpi .sge (BitVec.ofNat 32 k.val) (IntOp.subi (BitVec.ofNat 32 q.val) 8#32)
    = if q.val ≤ k.val + 8 then 1#1 else 0#1 := by
  decide +kernel

/-- A key of the window lies in the sequence when its position is not negative. -/
theorem key_mask : ∀ (i : Fin 8) (c : Fin 4) (w : Fin 640),
    IntOp.cmpi .sge (IntOp.addi (BitVec.ofNat 32 w.val)
      (IntOp.addi (IntOp.subi (IntOp.muli (BitVec.ofNat 32 i.val) 512#32) 512#32) (BitVec.ofNat 32 (128 * c.val)))) 0#32
    = if 512 ≤ i.val * 512 + 128 * c.val + w.val then 1#1 else 0#1 := by
  decide +kernel

theorem select_ite {α : Type} (p : Prop) [Decidable p] (x y : α) :
    Scalar.select (if p then 1#1 else 0#1) x y = if p then x else y := by
  unfold Scalar.select; split <;> simp_all

theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

end Cert.Words
end
-- ==== Proof.Tile.lean ====
/- What the attention kernel's vector operations compute at one entry: the bias table, the scores of a tile of 128
   queries against 640 keys, the mask of the keys before the sequence's start, and the base-two softmax. -/
module

public import proofs.«01_k».proof.Proof.Gen.KernelIdeal.Skeleton
public import proofs.«01_k».proof.Proof.Words
public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

namespace Cert.Tile

open Idealize.ShloMosaic Idealize.ShloMosaic.ValueIdx
open Cert.KernelIdeal Cert.KernelIdeal.Gen
open Cert.KernelIdeal.Facts

/-- The named constant `log2e` is the inverse of the logarithm of two. -/
theorem log2e_val : (Named.named Cert.KernelIdeal.κ "log2e" (0x3FB8AA3B#32 : BitVec FTy.f32.bits) : Ideal .f32) = (((Real.log 2)⁻¹ : ℝ) : EReal) :=
  IdealRules.named_const.ideal_named_scalar (φ := .f32) _ _ _ _ rfl

/-- The named constant `qscale` is the inverse of the square root of 128 over the logarithm of two. -/
theorem qscale_val : (Named.named Cert.KernelIdeal.κ "qscale" (0x3E0293EE#32 : BitVec FTy.f32.bits) : Ideal .f32)
    = (((Real.sqrt 128)⁻¹ * (Real.log 2)⁻¹ : ℝ) : EReal) :=
  IdealRules.named_const.ideal_named_scalar (φ := .f32) _ _ _ _ rfl

/-- The pattern of minus infinity is the bottom of the extended reals. -/
theorem ninf_val : Ideal.ofBits .f32 0xFF800000#32 = (⊥ : EReal) := by
  simp [Ideal.ofBits, Ideal.ieee]

/-- The pattern of plus infinity is the top of the extended reals. -/
theorem pinf_val : Ideal.ofBits .f32 0x7F800000#32 = (⊤ : EReal) := by
  simp [Ideal.ofBits, Ideal.ieee]

/-- The pattern of 128. -/
theorem ofBits_128 : Ideal.ofBits .f32 0x43000000#32 = ((128 : ℝ) : EReal) := by
  simp [Ideal.ofBits, Ideal.ieee, -EReal.coe_mul]; norm_num

theorem dot_qk : dot_S128x128_S640x128_S128x640_1_1_0_0_n_n = DotDims.transposedRhs 128 128 640 := rfl
theorem dot_pv : dot_S128x640_S640x128_S128x128_1_0_0_1_n_n = DotDims.plain 128 640 128 := rfl

variable [FactsK : Cert.KernelIdeal.Facts]

/-- Entry (r, w) of the bias table: the row of biases at `w + 127 − r`, scaled, plus the band. -/
theorem bias_apply (u : FVec Ideal S1x768 .f32) (band : FVec Ideal S128x640 .f32) (r : Fin 128) (w : Fin 640) :
    k0_pay9 (F := Ideal) u band k0_pay8 (ix2 r w)
      = u (ix2 0 ⟨w.val + 127 - r.val, by omega⟩) * (((Real.log 2)⁻¹ : ℝ) : EReal) + band (ix2 r w) := by
  unfold k0_pay9 k0_pay8
  rw [addf_apply]
  refine congrArg (· + band (ix2 r w)) ?_
  rw [extractStridedSlice_apply _ _ _ _ (ix2 r ⟨w.val, by omega⟩) (by intro a; fin_cases a <;> simp)]
  unfold dynamicRotate
  dsimp only
  rw [concatenate_pair_apply_left (t := S128x1024) (s₁ := S128x768) (s₂ := S128x256) 1 _ _ _ _ rfl (ix2 r ⟨w.val + 127 - r.val, by omega⟩) (by
    intro b
    fin_cases b
    · rfl
    · show w.val + 127 - r.val = (w.val + 1024 - ((897#32).toNat + 1 * r.val) % 1024) % 1024
      have : (897#32).toNat = 897 := rfl
      omega)]
  rw [broadcastTo_apply _ _ _ (ix2 0 ⟨w.val + 127 - r.val, by omega⟩) (by intro a; fin_cases a <;> simp)]
  rw [shapeCast_apply _ _ _ (ix2 0 ⟨w.val + 127 - r.val, by omega⟩) rfl]
  rw [mulf_apply, broadcast_apply, log2e_val]

/-- Entry (r, w) of the scores of a tile: the scaled query row times the key row, plus the bias table. -/
theorem score_apply (u : FVec Ideal S1x768 .f32) (band : FVec Ideal S128x640 .f32) (q : Vec Ideal S128x128 .f32)
    (k : Vec Ideal S640x128 .bf16) (r : Fin 128) (w : Fin 640) :
    k0_pay11 (F := Ideal) u band k0_pay8 q k (ix2 r w)
      = (∑ d : Fin 128, (q (ix2 r d) * (((Real.sqrt 128)⁻¹ * (Real.log 2)⁻¹ : ℝ) : EReal)) * k (ix2 w d))
        + (u (ix2 0 ⟨w.val + 127 - r.val, by omega⟩) * (((Real.log 2)⁻¹ : ℝ) : EReal) + band (ix2 r w)) := by
  unfold k0_pay11
  rw [addf_apply, bias_apply]
  refine congrArg (· + _) ?_
  unfold matmul
  rw [dot_qk, Ideal.matmul_transposedRhs_apply, constant_apply, Ideal.ofBits_zero_f32, zero_add]
  refine Finset.sum_congr rfl fun d _ => ?_
  rw [truncf_apply, mulf_apply, broadcast_apply, qscale_val]

/-- The base-two softmax of a tile's scores times the values, at entry (r, d). -/
theorem softmax_apply (s : FVec Ideal S128x640 .f32) (v : Vec Ideal S640x128 .bf16) (r d : Fin 128) :
    k0_pay18 (F := Ideal) s v (ix2 r d)
      = Ideal.div (∑ w : Fin 640, Ideal.exp2 (s (ix2 r w) - Finset.univ.fold max ⊥ (fun w : Fin 640 => s (ix2 r w))) * v (ix2 w d))
          (∑ w : Fin 640, Ideal.exp2 (s (ix2 r w) - Finset.univ.fold max ⊥ (fun w : Fin 640 => s (ix2 r w)))) := by
  have hp : ∀ w : Fin 640, exp2 (subf s (broadcastTo S128x640 (shapeCast S128x1 (multiReduction .maximumf [1] S128 s 0xFF800000#32 reduces_S128x640_S128 (.inl rfl) rfl) shapeCasts_S128_S128x1) broadcasts_S128x1_S128x640)) (ix2 r w)
      = Ideal.exp2 (s (ix2 r w) - Finset.univ.fold max ⊥ (fun w : Fin 640 => s (ix2 r w))) := by
    intro w
    show Ideal.exp2 (subf s _ (ix2 r w)) = _
    rw [subf_apply, broadcastTo_apply _ _ _ (ix2 r 0) (by intro a; fin_cases a <;> simp),
      shapeCast_apply _ _ _ (ix1 r) (by rw [Shape.rowMajor_val_one, Shape.rowMajor_val_two]; simp),
      show multiReduction .maximumf [1] S128 s 0xFF800000#32 reduces_S128x640_S128 (.inl rfl) rfl (ix1 r) = _ from
        Ideal.multiReduction_maximumf_single s _ reduces_S128x640_S128 _ _ (ix1 r), show (FloatOps.ofBits .f32 0xFF800000#32 : Ideal .f32) = ⊥ from ninf_val]
    refine congrArg (fun f => Ideal.exp2 (s (ix2 r w) - Finset.univ.fold max ⊥ f)) ?_
    funext w'
    exact congrArg s (funext fun a => Fin.ext (by match a with | ⟨0, _⟩ => rfl | ⟨1, _⟩ => rfl))
  unfold k0_pay18
  rw [truncf_apply, divf_apply]
  congr 1
  · unfold matmul
    rw [dot_pv, Ideal.matmul_plain_apply, constant_apply, Ideal.ofBits_zero_f32, zero_add]
    refine Finset.sum_congr rfl fun w _ => ?_
    rw [truncf_apply, hp]
  · rw [broadcastTo_apply _ _ _ (ix2 r 0) (by intro a; fin_cases a <;> simp),
      shapeCast_apply _ _ _ (ix1 r) (by rw [Shape.rowMajor_val_one, Shape.rowMajor_val_two]; simp),
      show multiReduction .add [1] S128 _ 0x00000000#32 reduces_S128x640_S128 (.inl rfl) rfl (ix1 r) = _ from
        Ideal.multiReduction_add_single _ _ reduces_S128x640_S128 _ _ (ix1 r)]
    refine Finset.sum_congr rfl fun w _ => ?_
    rw [← hp w]
    exact congrArg _ (funext fun a => Fin.ext (by match a with | ⟨0, _⟩ => rfl | ⟨1, _⟩ => rfl))

/-- The four tiles of a block are computed by the same operations. -/
theorem pay12_eq : k0_pay12 (F := Ideal) = k0_pay11 := rfl
theorem pay13_eq : k0_pay13 (F := Ideal) = k0_pay11 := rfl
theorem pay19_eq : k0_pay19 (F := Ideal) = k0_pay18 := rfl
theorem pay20_eq : k0_pay20 (F := Ideal) = k0_pay18 := rfl
theorem pay1_eq (s : FVec Ideal S128x640 .f32) (v : Vec Ideal S640x128 .bf16) : k0_pay1 (F := Ideal) s v (k0_pay21 s) = k0_pay18 s v := rfl

/-- The mask of a tile keeps the scores of the keys whose position is not negative. -/
theorem mask_apply (c : Fin 4) (i : Fin 8) (v : IVec S128x640 32) (hv : ∀ r w, v (ix2 r w) = BitVec.ofNat 32 w.val)
    (s : FVec Ideal S128x640 .f32) (r : Fin 128) (w : Fin 640) :
    select (cmpi .sge (addi v (broadcast S128x640 (Scalar.addi (Scalar.subi (Scalar.muli (BitVec.ofNat 32 i.val) 512#32) 512#32) (BitVec.ofNat 32 (128 * c.val)))))
        (broadcast S128x640 0#32)) s (broadcast S128x640 (Scalar.ofBits (F := Ideal) .f32 0xFF800000#32)) (ix2 r w)
      = if 512 ≤ i.val * 512 + 128 * c.val + w.val then s (ix2 r w) else (⊥ : EReal) := by
  show Scalar.select (IntOp.cmpi .sge (IntOp.addi (v (ix2 r w)) _) 0#32) (s (ix2 r w)) (Ideal.ofBits .f32 0xFF800000#32) = _
  rw [hv, ninf_val]
  exact (congrArg (fun z => Scalar.select z (s (ix2 r w)) ⊥) (Words.key_mask i c w)).trans (Words.select_ite _ _ _)

theorem pay14_apply (i : Fin 8) (v : IVec S128x640 32) (hv : ∀ r w, v (ix2 r w) = BitVec.ofNat 32 w.val)
    (s : FVec Ideal S128x640 .f32) (r : Fin 128) (w : Fin 640) :
    k0_pay14 (F := Ideal) (BitVec.ofNat 32 i.val) v s (ix2 r w)
      = if 512 ≤ i.val * 512 + 128 * 0 + w.val then s (ix2 r w) else (⊥ : EReal) := mask_apply 0 i v hv s r w

theorem pay15_apply (i : Fin 8) (v : IVec S128x640 32) (hv : ∀ r w, v (ix2 r w) = BitVec.ofNat 32 w.val)
    (s : FVec Ideal S128x640 .f32) (r : Fin 128) (w : Fin 640) :
    k0_pay15 (F := Ideal) (BitVec.ofNat 32 i.val) v s (ix2 r w)
      = if 512 ≤ i.val * 512 + 128 * 1 + w.val then s (ix2 r w) else (⊥ : EReal) := mask_apply 1 i v hv s r w

theorem pay16_apply (i : Fin 8) (v : IVec S128x640 32) (hv : ∀ r w, v (ix2 r w) = BitVec.ofNat 32 w.val)
    (s : FVec Ideal S128x640 .f32) (r : Fin 128) (w : Fin 640) :
    k0_pay16 (F := Ideal) (BitVec.ofNat 32 i.val) v s (ix2 r w)
      = if 512 ≤ i.val * 512 + 128 * 2 + w.val then s (ix2 r w) else (⊥ : EReal) := mask_apply 2 i v hv s r w

theorem pay17_apply (i : Fin 8) (v : IVec S128x640 32) (hv : ∀ r w, v (ix2 r w) = BitVec.ofNat 32 w.val)
    (u : FVec Ideal S1x768 .f32) (band : FVec Ideal S128x640 .f32) (q : Vec Ideal S128x128 .f32)
    (k : Vec Ideal S640x128 .bf16) (r : Fin 128) (w : Fin 640) :
    k0_pay17 (F := Ideal) (BitVec.ofNat 32 i.val) (k0_pay9 u band k0_pay8) v (k0_pay10 q) k (ix2 r w)
      = if 512 ≤ i.val * 512 + 128 * 3 + w.val then k0_pay11 (F := Ideal) u band k0_pay8 q k (ix2 r w) else (⊥ : EReal) :=
  mask_apply 3 i v hv (k0_pay11 (F := Ideal) u band k0_pay8 q k) r w

end Cert.Tile
end
end
-- ==== Proof.Pre.lean ====
/- The precondition read: the queries, the keys and the biases are real numbers. -/
module

public import proofs.«01_k».proof.Pre_finite
public import proofs.«01_k».proof.Proof.Tile
public import Idealize.ShloMosaic.Lib.ReduceAll
public import Idealize.ShloMosaic.Lib.ValueIdx
public import Idealize.ShloMosaic.PureOps.Ideal.Laws

@[expose] public section

noncomputable section

namespace Cert.Pre

open Idealize.ShloMosaic Idealize.ShloMosaic.ValueIdx
open Cert.Pre_finite

/-- The shape relations that the precondition states. -/
theorem facts : Cert.Pre_finite.Facts where
  slices_S8704x6144_S8192x4096_0_0 := by decide
  bcast_S_S8192x4096 := by decide
  reducesTo_S8192x4096_S_d0_1 := by decide
  h_S_ := by decide
  bcast_S_S16x257 := by decide
  reducesTo_S16x257_S_d0_1 := by decide

/-- Two bits whose conjunction is set are set. -/
theorem and_bits : ∀ a b : BitVec 1, IntOp.andi a b = 1#1 → a = 1#1 ∧ b = 1#1 := by decide

/-- A number whose magnitude is below infinity is real. -/
theorem real_of_lt (x : EReal) (h : Ideal.cmp .olt (max x (-x)) (Ideal.ofBits .f32 0x7F800000#32) = 1#1) : ∃ v : ℝ, x = v := by
  rw [Cert.Tile.pinf_val] at h
  have h' : max x (-x) < ⊤ := by
    by_contra hn
    simp [Ideal.cmp, hn] at h
  induction x with
  | bot => simp at h'
  | top => simp at h'
  | coe v => exact ⟨v, rfl⟩

/-- Under the precondition the prompt's queries and keys are real. -/
theorem real_qk (x0 : S8704x6144.Idx → EReal) (x1 : S16x257.Idx → EReal) (x2 : S8704x2048.Idx → EReal)
    (h : @fn facts Ideal _ x0 x1 x2 = fun _ => 1#1) (r : Fin 8192) (c : Fin 4096) :
    ∃ v : ℝ, x0 (ix2 ⟨r.val, by omega⟩ ⟨c.val, by omega⟩) = v := by
  have e := (and_bits _ _ (congrFun h (fun a => a.elim0))).1
  have : Subsingleton S_.Idx := ⟨fun a b => funext fun i => i.elim0⟩
  have e' := Host.reduce_andi_all _ _ _ _ _ e (ix2 r c)
  refine real_of_lt _ ?_
  refine Eq.trans ?_ e'
  show _ = Ideal.cmp .olt (max (x0 _) (-(x0 _))) _
  refine congrArg (fun z => Ideal.cmp .olt (max (x0 z) (-(x0 z))) (Ideal.ofBits .f32 0x7F800000#32)) (funext fun a => Fin.ext ?_)
  match a with
  | ⟨0, _⟩ => show r.val = 0 + r.val; omega
  | ⟨1, _⟩ => show c.val = 0 + c.val; omega

/-- Under the precondition the biases are real. -/
theorem real_bias (x0 : S8704x6144.Idx → EReal) (x1 : S16x257.Idx → EReal) (x2 : S8704x2048.Idx → EReal)
    (h : @fn facts Ideal _ x0 x1 x2 = fun _ => 1#1) (i : S16x257.Idx) : ∃ v : ℝ, x1 i = v := by
  have e := (and_bits _ _ (congrFun h (fun a => a.elim0))).2
  have : Subsingleton S_.Idx := ⟨fun a b => funext fun i => i.elim0⟩
  exact real_of_lt _ (Host.reduce_andi_all _ _ _ _ _ e i)

end Cert.Pre

end
-- ==== Proof.Block.lean ====
/- What one grid point of the attention kernel leaves in its output blocks, as a function of its input blocks: the
   softmax average of four tiles of 128 queries, and the copies of the last keys and values. -/
module

public import proofs.«01_k».proof.Proof.Gen.KernelIdeal.Value
public import proofs.«01_k».proof.Proof.Tile

@[expose] public section

noncomputable section

namespace Cert.Block

open Idealize.ShloMosaic Idealize.ShloMosaic.ValueIdx Idealize.ShloMosaic.TcCoe Idealize.SL.Sem
open Cert.KernelIdeal Cert.KernelIdeal.Gen Cert.KernelIdeal.Facts

/-- Row `n` of two blocks of 512 rows, one above the other. -/
def stack (x y : S512x128.Idx → EReal) (n : Fin 1024) (d : Fin 128) : EReal :=
  if h : n.val < 512 then x (ix2 ⟨n.val, h⟩ d) else y (ix2 ⟨n.val - 512, by omega⟩ d)

/-- The key of the stacked blocks that query `y` of the block meets at place `w` of its window. -/
abbrev win (y : Fin 512) (w : Fin 640) : Fin 1024 := ⟨128 * (y.val / 128) + w.val, by omega⟩

/-- The kernel's masked score of query `y` of block `i` and place `w` of its window. -/
def tileScore (i : Fin 8) (x0 x1 x2 : S512x128.Idx → EReal) (x5 : S1x1x768.Idx → EReal) (x6 : S128x640.Idx → EReal)
    (y : Fin 512) (w : Fin 640) : EReal :=
  if 512 ≤ i.val * 512 + 128 * (y.val / 128) + w.val then
    (∑ d : Fin 128, (x0 (ix2 y d) * (((Real.sqrt 128)⁻¹ * (Real.log 2)⁻¹ : ℝ) : EReal)) * stack x1 x2 (win y w) d)
      + (x5 (ix3 0 0 ⟨w.val + 127 - y.val % 128, by omega⟩) * (((Real.log 2)⁻¹ : ℝ) : EReal)
        + x6 (ix2 ⟨y.val % 128, by omega⟩ w))
  else ⊥

/-- The kernel's result for query `y` of block `i`, coordinate `d`. -/
def tileOut (i : Fin 8) (x0 x1 x2 x3 x4 : S512x128.Idx → EReal) (x5 : S1x1x768.Idx → EReal) (x6 : S128x640.Idx → EReal)
    (y : Fin 512) (d : Fin 128) : EReal :=
  Ideal.div (∑ w : Fin 640, Ideal.exp2 (tileScore i x0 x1 x2 x5 x6 y w
      - Finset.univ.fold max ⊥ (tileScore i x0 x1 x2 x5 x6 y)) * stack x3 x4 (win y w) d)
    (∑ w : Fin 640, Ideal.exp2 (tileScore i x0 x1 x2 x5 x6 y w
      - Finset.univ.fold max ⊥ (tileScore i x0 x1 x2 x5 x6 y)))

/-- The block of results. -/
def blockOut (i : Fin 8) (x0 x1 x2 x3 x4 : S512x128.Idx → EReal) (x5 : S1x1x768.Idx → EReal) (x6 : S128x640.Idx → EReal) :
    Vec Ideal S512x128 .bf16 := fun y => tileOut i x0 x1 x2 x3 x4 x5 x6 (y 0) (y 1)

/-- Reading 128 rows of a block from row `128 c`. -/
theorem ld_rows (x : Vec Ideal S512x128 .f32) (o : Nat) (inb : ∀ a, (![o, 0] : Fin 2 → Nat) a + (![128, 128] : Fin 2 → Nat) a ≤ S512x128.size a)
    (r d : Fin 128) (ho : o + r.val < 512) :
    View.ld (Val := Elt Ideal) (e' := .f32) x (Rect.unit ![o, 0] ![128, 128] inb) (ix2 r d) = x (ix2 ⟨o + r.val, ho⟩ d) := by
  refine congrArg x (funext fun a => Fin.ext ?_)
  match a with
  | ⟨0, _⟩ => show o + 1 * r.val = o + r.val; omega
  | ⟨1, _⟩ => show 0 + 1 * d.val = d.val; omega

/-- The scratch buffer after its two stores, read at a row of a window. -/
theorem scratch_at (x y : S512x128.Idx → EReal) (inb0 inb1) (o : Nat)
    (inb : ∀ a, (![o, 0] : Fin 2 → Nat) a + (![640, 128] : Fin 2 → Nat) a ≤ S1024x128.size a)
    (w : Fin 640) (d : Fin 128) (ho : o + w.val < 1024) :
    View.canon (Val := Elt Ideal) (s := S1024x128) (e := .bf16)
      [⟨Rect.unit ![512, 0] ![512, 128] inb1, y⟩, ⟨Rect.unit ![0, 0] ![512, 128] inb0, x⟩]
        ((Rect.unit (s := S1024x128) ![o, 0] ![640, 128] inb).idx (show (Rect.unit (s := S1024x128) ![o, 0] ![640, 128] inb).shape.Idx from ix2 w d))
      = stack x y ⟨o + w.val, ho⟩ d := by
  unfold stack
  split
  · rename_i h
    rw [View.canon_cons_of_not_mem]
    · refine Eq.trans ?_ (View.canon_cons_emb (Val := Elt Ideal) (s := S1024x128) (e := .bf16) (Rect.unit ![0, 0] ![512, 128] inb0) x [] (ix2 ⟨o + w.val, h⟩ d))
      refine congrArg _ (funext fun a => Fin.ext ?_)
      match a with
      | ⟨0, _⟩ => show o + 1 * w.val = 0 + 1 * (o + w.val); omega
      | ⟨1, _⟩ => show 0 + 1 * d.val = 0 + 1 * d.val; rfl
    · rw [Rect.mem_set_unit]
      intro hh
      have h0 := (hh 0).1
      have h1 : 512 ≤ o + 1 * w.val := h0
      have h2 : o + w.val < 512 := h
      omega
  · rename_i h
    refine Eq.trans ?_ (View.canon_cons_emb (Val := Elt Ideal) (s := S1024x128) (e := .bf16) (Rect.unit ![512, 0] ![512, 128] inb1) y [⟨Rect.unit ![0, 0] ![512, 128] inb0, x⟩] (ix2 ⟨o + w.val - 512, by omega⟩ d))
    refine congrArg _ (funext fun a => Fin.ext ?_)
    match a with
    | ⟨0, _⟩ => show o + 1 * w.val = 512 + 1 * (o + w.val - 512); have h2 : ¬ o + w.val < 512 := h; omega
    | ⟨1, _⟩ => show 0 + 1 * d.val = 0 + 1 * d.val; rfl

theorem hz2 : (![0, 0] : Fin 2 → Nat) = fun _ => 0 := funext fun a => by fin_cases a <;> rfl
theorem hz3 : (![0, 0, 0] : Fin 3 → Nat) = fun _ => 0 := funext fun a => by fin_cases a <;> rfl

theorem iota_at (r : Fin 128) (w : Fin 640) :
    iota Kind.tc S128x640 32 [1] iota_S128x640_d1_w32 (ix2 r w) = BitVec.ofNat 32 w.val := by
  unfold iota
  refine congrArg (BitVec.ofNat 32) ?_
  show 0 * 640 + w.val = w.val
  omega

/-- One tile: its masked scores and its window of values give the block's rows `128 c` to `128 c + 127`. -/
theorem tile_at (c : Fin 4) (i : Fin 8) (x0 x1 x2 x3 x4 : S512x128.Idx → EReal) (x5 : S1x1x768.Idx → EReal) (x6 : S128x640.Idx → EReal)
    (s : FVec Ideal S128x640 .f32) (v : Vec Ideal S640x128 .bf16)
    (q : Vec Ideal S128x128 .f32) (k : Vec Ideal S640x128 .bf16) (u : FVec Ideal S1x768 .f32) (band : FVec Ideal S128x640 .f32)
    (hs : ∀ r w, s (ix2 r w) = if 512 ≤ i.val * 512 + 128 * c.val + w.val then k0_pay11 (F := Ideal) u band k0_pay8 q k (ix2 r w) else (⊥ : EReal))
    (hq : ∀ r d, q (ix2 r d) = x0 (ix2 ⟨128 * c.val + r.val, by omega⟩ d))
    (hk : ∀ w d, k (ix2 w d) = stack x1 x2 ⟨128 * c.val + w.val, by omega⟩ d)
    (hv : ∀ w d, v (ix2 w d) = stack x3 x4 ⟨128 * c.val + w.val, by omega⟩ d)
    (hu : ∀ a, u (ix2 0 a) = x5 (ix3 0 0 a)) (hb : ∀ r w, band (ix2 r w) = x6 (ix2 r w)) (r d : Fin 128) :
    k0_pay18 (F := Ideal) s v (ix2 r d) = tileOut i x0 x1 x2 x3 x4 x5 x6 ⟨128 * c.val + r.val, by omega⟩ d := by
  rw [Tile.softmax_apply]
  have e1 : (128 * c.val + r.val) / 128 = c.val := by omega
  have e2 : (128 * c.val + r.val) % 128 = r.val := by omega
  have hsc : (fun w : Fin 640 => s (ix2 r w)) = tileScore i x0 x1 x2 x5 x6 ⟨128 * c.val + r.val, by omega⟩ := by
    funext w
    rw [hs, Tile.score_apply]
    unfold tileScore win
    simp only [e1, e2, hq, hk, hu, hb]
  unfold tileOut
  rw [← hsc]
  have hw : ∀ w : Fin 640, v (ix2 w d) = stack x3 x4 (win ⟨128 * c.val + r.val, by omega⟩ w) d := by
    intro w
    rw [hv]
    unfold win
    simp only [e1]
  simp only [hw]

theorem pay2_eq (x : Vec Ideal S512x128 .f32) : k0_pay2 (F := Ideal) x = x := by
  unfold k0_pay2; funext j; simp only [shapeCast_self, truncf_apply]

theorem pay3_eq (x : Vec Ideal S512x128 .f32) : k0_pay3 (F := Ideal) x = x := by
  unfold k0_pay3; funext j; simp only [shapeCast_self, truncf_apply]

theorem pay4_eq (x : Vec Ideal S512x128 .f32) : k0_pay4 (F := Ideal) x = x := by
  unfold k0_pay4; funext j; simp only [shapeCast_self, truncf_apply]

theorem pay5_eq (x : Vec Ideal S512x128 .f32) : k0_pay5 (F := Ideal) x = x := by
  unfold k0_pay5; funext j; simp only [shapeCast_self, truncf_apply]

theorem pay6_at (x : Vec Ideal S1x1x768 .f32) (a : Fin 768) : k0_pay6 (F := Ideal) x (ix2 0 a) = x (ix3 0 0 a) := by
  unfold k0_pay6
  exact shapeCast_apply _ _ _ (ix3 0 0 a) (by rw [Shape.rowMajor_val_three, Shape.rowMajor_val_two]; rfl)

theorem pay7_eq (x : Vec Ideal S128x640 .f32) : k0_pay7 (F := Ideal) x = x := by
  unfold k0_pay7; simp only [shapeCast_self]

/-- The stored tile 0: rows 0 to 127 of the block of results. -/
theorem piece0 (i : Fin 8) (x0 x1 x2 x3 x4 : Vec Ideal S512x128 .f32) (x5 : Vec Ideal S1x1x768 .f32) (x6 : Vec Ideal S128x640 .f32)
    (inb0 inb1 inb2 inb3) (x : (Rect.unit (s := S512x128) ![0, 0] ![128, 128] inb3).shape.Idx) :
    k0_pay18 (F := Ideal) (k0_pay14 (BitVec.ofNat 32 i.val) (iota Kind.tc S128x640 32 [1] iota_S128x640_d1_w32) (k0_pay11 (k0_pay6 x5) (k0_pay7 x6) k0_pay8 (View.ld (Val := Elt Ideal) (e' := .f32) x0 (Rect.unit (s := S512x128) ![0, 0] ![128, 128] inb3)) (fun j => View.canon (Val := Elt Ideal) (s := S1024x128) (e := .bf16) [⟨Rect.unit ![512, 0] ![512, 128] inb1, k0_pay3 x2⟩, ⟨Rect.unit ![0, 0] ![512, 128] inb0, k0_pay2 x1⟩] ((Rect.unit (s := S1024x128) ![0, 0] ![640, 128] inb2).idx j)))) (fun j => View.canon (Val := Elt Ideal) (s := S1024x128) (e := .bf16) [⟨Rect.unit ![512, 0] ![512, 128] inb1, k0_pay5 x4⟩, ⟨Rect.unit ![0, 0] ![512, 128] inb0, k0_pay4 x3⟩] ((Rect.unit (s := S1024x128) ![0, 0] ![640, 128] inb2).idx j)) x
      = blockOut i x0 x1 x2 x3 x4 x5 x6 ((Rect.unit (s := S512x128) ![0, 0] ![128, 128] inb3).emb x) := by
  have hx : x = ix2 (x 0) (x 1) := eq_ix2 (n0 := 128) (n1 := 128) x
  have h0 : (x 0).val < 128 := (x 0).isLt
  have he : blockOut i x0 x1 x2 x3 x4 x5 x6 ((Rect.unit (s := S512x128) ![0, 0] ![128, 128] inb3).emb x)
      = tileOut i x0 x1 x2 x3 x4 x5 x6 ⟨128 * (0 : Fin 4).val + (x 0).val, by show 128 * 0 + (x 0).val < 512; omega⟩ (x 1) := by
    unfold blockOut
    refine congrArg₂ (tileOut i x0 x1 x2 x3 x4 x5 x6) (Fin.ext ?_) (Fin.ext ?_)
    · show 0 + 1 * (x 0).val = 128 * 0 + (x 0).val
      omega
    · show 0 + 1 * (x 1).val = (x 1).val
      omega
  rw [he]
  refine (congrArg _ hx).trans ?_
  refine tile_at 0 i x0 x1 x2 x3 x4 x5 x6 _ _ _ _ _ _ (fun r w => Tile.pay14_apply i _ iota_at _ r w) ?_ ?_ ?_ (pay6_at x5) (fun r w => congrFun (pay7_eq x6) _) (x 0) (x 1)
  · exact fun r d => ld_rows x0 0 inb3 r d (by omega)
  · intro w d
    simp only [pay2_eq, pay3_eq]
    exact scratch_at x1 x2 inb0 inb1 0 inb2 w d (by omega)
  · intro w d
    simp only [pay4_eq, pay5_eq]
    exact scratch_at x3 x4 inb0 inb1 0 inb2 w d (by omega)

/-- The stored tile 1: rows 128 to 255 of the block of results. -/
theorem piece1 (i : Fin 8) (x0 x1 x2 x3 x4 : Vec Ideal S512x128 .f32) (x5 : Vec Ideal S1x1x768 .f32) (x6 : Vec Ideal S128x640 .f32)
    (inb0 inb1 inb2 inb3) (x : (Rect.unit (s := S512x128) ![128, 0] ![128, 128] inb3).shape.Idx) :
    k0_pay19 (F := Ideal) (k0_pay15 (BitVec.ofNat 32 i.val) (iota Kind.tc S128x640 32 [1] iota_S128x640_d1_w32) (k0_pay12 (k0_pay6 x5) (k0_pay7 x6) k0_pay8 (View.ld (Val := Elt Ideal) (e' := .f32) x0 (Rect.unit (s := S512x128) ![128, 0] ![128, 128] inb3)) (fun j => View.canon (Val := Elt Ideal) (s := S1024x128) (e := .bf16) [⟨Rect.unit ![512, 0] ![512, 128] inb1, k0_pay3 x2⟩, ⟨Rect.unit ![0, 0] ![512, 128] inb0, k0_pay2 x1⟩] ((Rect.unit (s := S1024x128) ![128, 0] ![640, 128] inb2).idx j)))) (fun j => View.canon (Val := Elt Ideal) (s := S1024x128) (e := .bf16) [⟨Rect.unit ![512, 0] ![512, 128] inb1, k0_pay5 x4⟩, ⟨Rect.unit ![0, 0] ![512, 128] inb0, k0_pay4 x3⟩] ((Rect.unit (s := S1024x128) ![128, 0] ![640, 128] inb2).idx j)) x
      = blockOut i x0 x1 x2 x3 x4 x5 x6 ((Rect.unit (s := S512x128) ![128, 0] ![128, 128] inb3).emb x) := by
  have hx : x = ix2 (x 0) (x 1) := eq_ix2 (n0 := 128) (n1 := 128) x
  have h0 : (x 0).val < 128 := (x 0).isLt
  have he : blockOut i x0 x1 x2 x3 x4 x5 x6 ((Rect.unit (s := S512x128) ![128, 0] ![128, 128] inb3).emb x)
      = tileOut i x0 x1 x2 x3 x4 x5 x6 ⟨128 * (1 : Fin 4).val + (x 0).val, by show 128 * 1 + (x 0).val < 512; omega⟩ (x 1) := by
    unfold blockOut
    refine congrArg₂ (tileOut i x0 x1 x2 x3 x4 x5 x6) (Fin.ext ?_) (Fin.ext ?_)
    · show 128 + 1 * (x 0).val = 128 * 1 + (x 0).val
      omega
    · show 0 + 1 * (x 1).val = (x 1).val
      omega
  rw [he]
  refine (congrArg _ hx).trans ?_
  refine tile_at 1 i x0 x1 x2 x3 x4 x5 x6 _ _ _ _ _ _ (fun r w => Tile.pay15_apply i _ iota_at _ r w) ?_ ?_ ?_ (pay6_at x5) (fun r w => congrFun (pay7_eq x6) _) (x 0) (x 1)
  · exact fun r d => ld_rows x0 128 inb3 r d (by omega)
  · intro w d
    simp only [pay2_eq, pay3_eq]
    exact scratch_at x1 x2 inb0 inb1 128 inb2 w d (by omega)
  · intro w d
    simp only [pay4_eq, pay5_eq]
    exact scratch_at x3 x4 inb0 inb1 128 inb2 w d (by omega)

/-- The stored tile 2: rows 256 to 383 of the block of results. -/
theorem piece2 (i : Fin 8) (x0 x1 x2 x3 x4 : Vec Ideal S512x128 .f32) (x5 : Vec Ideal S1x1x768 .f32) (x6 : Vec Ideal S128x640 .f32)
    (inb0 inb1 inb2 inb3) (x : (Rect.unit (s := S512x128) ![256, 0] ![128, 128] inb3).shape.Idx) :
    k0_pay20 (F := Ideal) (k0_pay16 (BitVec.ofNat 32 i.val) (iota Kind.tc S128x640 32 [1] iota_S128x640_d1_w32) (k0_pay13 (k0_pay6 x5) (k0_pay7 x6) k0_pay8 (View.ld (Val := Elt Ideal) (e' := .f32) x0 (Rect.unit (s := S512x128) ![256, 0] ![128, 128] inb3)) (fun j => View.canon (Val := Elt Ideal) (s := S1024x128) (e := .bf16) [⟨Rect.unit ![512, 0] ![512, 128] inb1, k0_pay3 x2⟩, ⟨Rect.unit ![0, 0] ![512, 128] inb0, k0_pay2 x1⟩] ((Rect.unit (s := S1024x128) ![256, 0] ![640, 128] inb2).idx j)))) (fun j => View.canon (Val := Elt Ideal) (s := S1024x128) (e := .bf16) [⟨Rect.unit ![512, 0] ![512, 128] inb1, k0_pay5 x4⟩, ⟨Rect.unit ![0, 0] ![512, 128] inb0, k0_pay4 x3⟩] ((Rect.unit (s := S1024x128) ![256, 0] ![640, 128] inb2).idx j)) x
      = blockOut i x0 x1 x2 x3 x4 x5 x6 ((Rect.unit (s := S512x128) ![256, 0] ![128, 128] inb3).emb x) := by
  have hx : x = ix2 (x 0) (x 1) := eq_ix2 (n0 := 128) (n1 := 128) x
  have h0 : (x 0).val < 128 := (x 0).isLt
  have he : blockOut i x0 x1 x2 x3 x4 x5 x6 ((Rect.unit (s := S512x128) ![256, 0] ![128, 128] inb3).emb x)
      = tileOut i x0 x1 x2 x3 x4 x5 x6 ⟨128 * (2 : Fin 4).val + (x 0).val, by show 128 * 2 + (x 0).val < 512; omega⟩ (x 1) := by
    unfold blockOut
    refine congrArg₂ (tileOut i x0 x1 x2 x3 x4 x5 x6) (Fin.ext ?_) (Fin.ext ?_)
    · show 256 + 1 * (x 0).val = 128 * 2 + (x 0).val
      omega
    · show 0 + 1 * (x 1).val = (x 1).val
      omega
  rw [he]
  refine (congrArg _ hx).trans ?_
  refine tile_at 2 i x0 x1 x2 x3 x4 x5 x6 _ _ _ _ _ _ (fun r w => Tile.pay16_apply i _ iota_at _ r w) ?_ ?_ ?_ (pay6_at x5) (fun r w => congrFun (pay7_eq x6) _) (x 0) (x 1)
  · exact fun r d => ld_rows x0 256 inb3 r d (by omega)
  · intro w d
    simp only [pay2_eq, pay3_eq]
    exact scratch_at x1 x2 inb0 inb1 256 inb2 w d (by omega)
  · intro w d
    simp only [pay4_eq, pay5_eq]
    exact scratch_at x3 x4 inb0 inb1 256 inb2 w d (by omega)

/-- The stored tile 3: rows 384 to 511 of the block of results. -/
theorem piece3 (i : Fin 8) (x0 x1 x2 x3 x4 : Vec Ideal S512x128 .f32) (x5 : Vec Ideal S1x1x768 .f32) (x6 : Vec Ideal S128x640 .f32)
    (inb0 inb1 inb2 inb3) (x : (Rect.unit (s := S512x128) ![384, 0] ![128, 128] inb3).shape.Idx) :
    k0_pay1 (F := Ideal) (k0_pay17 (BitVec.ofNat 32 i.val) (k0_pay9 (k0_pay6 x5) (k0_pay7 x6) k0_pay8) (iota Kind.tc S128x640 32 [1] iota_S128x640_d1_w32) (k0_pay10 (View.ld (Val := Elt Ideal) (e' := .f32) x0 (Rect.unit (s := S512x128) ![384, 0] ![128, 128] inb3))) (fun j => View.canon (Val := Elt Ideal) (s := S1024x128) (e := .bf16) [⟨Rect.unit ![512, 0] ![512, 128] inb1, k0_pay3 x2⟩, ⟨Rect.unit ![0, 0] ![512, 128] inb0, k0_pay2 x1⟩] ((Rect.unit (s := S1024x128) ![384, 0] ![640, 128] inb2).idx j))) (fun j => View.canon (Val := Elt Ideal) (s := S1024x128) (e := .bf16) [⟨Rect.unit ![512, 0] ![512, 128] inb1, k0_pay5 x4⟩, ⟨Rect.unit ![0, 0] ![512, 128] inb0, k0_pay4 x3⟩] ((Rect.unit (s := S1024x128) ![384, 0] ![640, 128] inb2).idx j)) (k0_pay21 (k0_pay17 (BitVec.ofNat 32 i.val) (k0_pay9 (k0_pay6 x5) (k0_pay7 x6) k0_pay8) (iota Kind.tc S128x640 32 [1] iota_S128x640_d1_w32) (k0_pay10 (View.ld (Val := Elt Ideal) (e' := .f32) x0 (Rect.unit (s := S512x128) ![384, 0] ![128, 128] inb3))) (fun j => View.canon (Val := Elt Ideal) (s := S1024x128) (e := .bf16) [⟨Rect.unit ![512, 0] ![512, 128] inb1, k0_pay3 x2⟩, ⟨Rect.unit ![0, 0] ![512, 128] inb0, k0_pay2 x1⟩] ((Rect.unit (s := S1024x128) ![384, 0] ![640, 128] inb2).idx j)))) x
      = blockOut i x0 x1 x2 x3 x4 x5 x6 ((Rect.unit (s := S512x128) ![384, 0] ![128, 128] inb3).emb x) := by
  have hx : x = ix2 (x 0) (x 1) := eq_ix2 (n0 := 128) (n1 := 128) x
  have h0 : (x 0).val < 128 := (x 0).isLt
  have he : blockOut i x0 x1 x2 x3 x4 x5 x6 ((Rect.unit (s := S512x128) ![384, 0] ![128, 128] inb3).emb x)
      = tileOut i x0 x1 x2 x3 x4 x5 x6 ⟨128 * (3 : Fin 4).val + (x 0).val, by show 128 * 3 + (x 0).val < 512; omega⟩ (x 1) := by
    unfold blockOut
    refine congrArg₂ (tileOut i x0 x1 x2 x3 x4 x5 x6) (Fin.ext ?_) (Fin.ext ?_)
    · show 384 + 1 * (x 0).val = 128 * 3 + (x 0).val
      omega
    · show 0 + 1 * (x 1).val = (x 1).val
      omega
  rw [he]
  refine (congrArg _ hx).trans ?_
  refine tile_at 3 i x0 x1 x2 x3 x4 x5 x6 _ _ _ _ _ _ (fun r w => Tile.pay17_apply i _ iota_at _ _ _ _ r w) ?_ ?_ ?_ (pay6_at x5) (fun r w => congrFun (pay7_eq x6) _) (x 0) (x 1)
  · exact fun r d => ld_rows x0 384 inb3 r d (by omega)
  · intro w d
    simp only [pay2_eq, pay3_eq]
    exact scratch_at x1 x2 inb0 inb1 384 inb2 w d (by omega)
  · intro w d
    simp only [pay4_eq, pay5_eq]
    exact scratch_at x3 x4 inb0 inb1 384 inb2 w d (by omega)

set_option maxHeartbeats 1600000 in
/-- The block of results a grid point of case A leaves. -/
theorem out_A_7 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x1x768 .f32) (harg8 : arg8.IsWhole) (arg9 : Memref sig .tc .vmem S128x640 .f32) (harg9 : arg9.IsWhole) (arg11 : Memref sig .tc .vmem S512x128 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S1024x128 .bf16) (harg14 : arg14.IsWhole) (arg15 : Memref sig .tc .vmem S1024x128 .bf16) (harg15 : arg15.IsWhole) (hc0 : ¬cond0_0 i)
    (x0 : Vec Ideal S512x128 .f32) (x1 : Vec Ideal S512x128 .f32) (x2 : Vec Ideal S512x128 .f32) (x3 : Vec Ideal S512x128 .f32) (x4 : Vec Ideal S512x128 .f32) (x5 : Vec Ideal S1x1x768 .f32) (x6 : Vec Ideal S128x640 .f32) :
    out0_A_7 (F := Ideal) c i arg3 harg3 arg4 harg4 arg5 harg5 arg6 harg6 arg7 harg7 arg8 harg8 arg9 harg9 arg11 harg11 arg12 harg12 arg13 harg13 arg14 harg14 arg15 harg15 hc0 x0 x1 x2 x3 x4 x5 x6 = blockOut (i 2) x0 x1 x2 x3 x4 x5 x6 := by
  unfold out0_A_7
  rw [View.read_writes_junk_eq_canon]
  funext y
  refine View.canon_apply_of_pieces (Val := Elt Ideal) (e := .bf16) (blockOut (i 2) x0 x1 x2 x3 x4 x5 x6) _ ?_ y (cover0_A_7 c i arg3 harg3 arg4 harg4 arg5 harg5 arg6 harg6 arg7 harg7 arg8 harg8 arg9 harg9 arg11 harg11 arg12 harg12 arg13 harg13 arg14 harg14 arg15 harg15 hc0 x0 x1 x2 x3 x4 x5 x6 y)
  unfold kernelRun0_A
  dsimp only
  sl_unfold_words
  simp only [List.forall_mem_cons]
  simp only [View.readCov_eq_canon', View.readAt_eq_ld, harg3.read_unread, harg4.read_unread, harg5.read_unread,
    harg6.read_unread, harg7.read_unread, harg8.read_unread, harg9.read_unread,
    View.ld_unit_zero (S := S512x128) hz2, View.ld_unit_zero (S := S128x640) hz2, View.ld_unit_zero (S := S1x1x768) hz3]
  exact ⟨fun x => piece3 (i 2) x0 x1 x2 x3 x4 x5 x6 _ _ _ _ x, fun x => piece2 (i 2) x0 x1 x2 x3 x4 x5 x6 _ _ _ _ x,
    fun x => piece1 (i 2) x0 x1 x2 x3 x4 x5 x6 _ _ _ _ x, fun x => piece0 (i 2) x0 x1 x2 x3 x4 x5 x6 _ _ _ _ x,
    fun x hx => absurd hx List.not_mem_nil⟩

set_option maxHeartbeats 1600000 in
/-- The block of results a grid point of case B leaves. -/
theorem out_B_7 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x1x768 .f32) (harg8 : arg8.IsWhole) (arg9 : Memref sig .tc .vmem S128x640 .f32) (harg9 : arg9.IsWhole) (arg11 : Memref sig .tc .vmem S512x128 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S1024x128 .bf16) (harg14 : arg14.IsWhole) (arg15 : Memref sig .tc .vmem S1024x128 .bf16) (harg15 : arg15.IsWhole) (hc0 : cond0_0 i)
    (x0 : Vec Ideal S512x128 .f32) (x1 : Vec Ideal S512x128 .f32) (x2 : Vec Ideal S512x128 .f32) (x3 : Vec Ideal S512x128 .f32) (x4 : Vec Ideal S512x128 .f32) (x5 : Vec Ideal S1x1x768 .f32) (x6 : Vec Ideal S128x640 .f32) :
    out0_B_7 (F := Ideal) c i arg3 harg3 arg4 harg4 arg5 harg5 arg6 harg6 arg7 harg7 arg8 harg8 arg9 harg9 arg11 harg11 arg12 harg12 arg13 harg13 arg14 harg14 arg15 harg15 hc0 x0 x1 x2 x3 x4 x5 x6 = blockOut (i 2) x0 x1 x2 x3 x4 x5 x6 := by
  unfold out0_B_7
  rw [View.read_writes_junk_eq_canon]
  funext y
  refine View.canon_apply_of_pieces (Val := Elt Ideal) (e := .bf16) (blockOut (i 2) x0 x1 x2 x3 x4 x5 x6) _ ?_ y (cover0_B_7 c i arg3 harg3 arg4 harg4 arg5 harg5 arg6 harg6 arg7 harg7 arg8 harg8 arg9 harg9 arg11 harg11 arg12 harg12 arg13 harg13 arg14 harg14 arg15 harg15 hc0 x0 x1 x2 x3 x4 x5 x6 y)
  unfold kernelRun0_B
  dsimp only
  sl_unfold_words
  simp only [List.forall_mem_cons]
  simp only [View.readCov_eq_canon', View.readAt_eq_ld, harg3.read_unread, harg4.read_unread, harg5.read_unread,
    harg6.read_unread, harg7.read_unread, harg8.read_unread, harg9.read_unread,
    View.ld_unit_zero (S := S512x128) hz2, View.ld_unit_zero (S := S128x640) hz2, View.ld_unit_zero (S := S1x1x768) hz3]
  exact ⟨fun x => piece3 (i 2) x0 x1 x2 x3 x4 x5 x6 _ _ _ _ x, fun x => piece2 (i 2) x0 x1 x2 x3 x4 x5 x6 _ _ _ _ x,
    fun x => piece1 (i 2) x0 x1 x2 x3 x4 x5 x6 _ _ _ _ x, fun x => piece0 (i 2) x0 x1 x2 x3 x4 x5 x6 _ _ _ _ x,
    fun x hx => absurd hx List.not_mem_nil⟩

/-- The last grid point of a row of blocks copies its own keys out. -/
theorem out_B_8 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x1x768 .f32) (harg8 : arg8.IsWhole) (arg9 : Memref sig .tc .vmem S128x640 .f32) (harg9 : arg9.IsWhole) (arg11 : Memref sig .tc .vmem S512x128 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S1024x128 .bf16) (harg14 : arg14.IsWhole) (arg15 : Memref sig .tc .vmem S1024x128 .bf16) (harg15 : arg15.IsWhole) (hc0 : cond0_0 i)
    (x0 : Vec Ideal S512x128 .f32) (x1 : Vec Ideal S512x128 .f32) (x2 : Vec Ideal S512x128 .f32) (x3 : Vec Ideal S512x128 .f32) (x4 : Vec Ideal S512x128 .f32) (x5 : Vec Ideal S1x1x768 .f32) (x6 : Vec Ideal S128x640 .f32) :
    out0_B_8 (F := Ideal) c i arg3 harg3 arg4 harg4 arg5 harg5 arg6 harg6 arg7 harg7 arg8 harg8 arg9 harg9 arg11 harg11 arg12 harg12 arg13 harg13 arg14 harg14 arg15 harg15 hc0 x0 x1 x2 x3 x4 x5 x6 = x2 := by
  unfold out0_B_8
  rw [View.read_writes_junk_eq_canon]
  unfold kernelRun0_B
  dsimp only
  sl_unfold_words
  simp only [View.readAt_eq_ld, harg5.read_unread, harg7.read_unread, View.ld_unit_zero (S := S512x128) hz2]
  exact View.canon_unit_zero (S := S512x128) hz2 _ _

/-- The last grid point of a row of blocks copies its own values out. -/
theorem out_B_9 (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1x1x768 .f32) (harg8 : arg8.IsWhole) (arg9 : Memref sig .tc .vmem S128x640 .f32) (harg9 : arg9.IsWhole) (arg11 : Memref sig .tc .vmem S512x128 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S1024x128 .bf16) (harg14 : arg14.IsWhole) (arg15 : Memref sig .tc .vmem S1024x128 .bf16) (harg15 : arg15.IsWhole) (hc0 : cond0_0 i)
    (x0 : Vec Ideal S512x128 .f32) (x1 : Vec Ideal S512x128 .f32) (x2 : Vec Ideal S512x128 .f32) (x3 : Vec Ideal S512x128 .f32) (x4 : Vec Ideal S512x128 .f32) (x5 : Vec Ideal S1x1x768 .f32) (x6 : Vec Ideal S128x640 .f32) :
    out0_B_9 (F := Ideal) c i arg3 harg3 arg4 harg4 arg5 harg5 arg6 harg6 arg7 harg7 arg8 harg8 arg9 harg9 arg11 harg11 arg12 harg12 arg13 harg13 arg14 harg14 arg15 harg15 hc0 x0 x1 x2 x3 x4 x5 x6 = x4 := by
  unfold out0_B_9
  rw [View.read_writes_junk_eq_canon]
  unfold kernelRun0_B
  dsimp only
  sl_unfold_words
  simp only [View.readAt_eq_ld, harg5.read_unread, harg7.read_unread, View.ld_unit_zero (S := S512x128) hz2]
  exact View.canon_unit_zero (S := S512x128) hz2 _ _

end Cert.Block
end
end
-- ==== Proof.Arr.lean ====
/- The kernel's input blocks at an index, and its result arrays after the run from what each grid point leaves. -/
module

public import proofs.«01_k».proof.Proof.Block
public import Idealize.ShloMosaic.Lib.Pipeline.ValueKit.Partial

@[expose] public section

noncomputable section

namespace Cert.Arr

open Idealize.ShloMosaic Idealize.ShloMosaic.ValueIdx Idealize.ShloMosaic.TcCoe Idealize.SL.Sem
open Cert.KernelIdeal Cert.KernelIdeal.Gen Cert.KernelIdeal.Facts Cert.Block

variable (m : (ℓ : Loc nD τ sig) → Buf (Elt Ideal) ℓ)

/-- The batch, the head and the block of a grid point. -/
abbrev pb (t : Fin cfg0.N) : Fin 2 := grid0.coords t 0
abbrev ph (t : Fin cfg0.N) : Fin 16 := grid0.coords t 1
abbrev pi (t : Fin cfg0.N) : Fin 8 := grid0.coords t 2

theorem mod_facts : ∀ t : Fin cfg0.N, (t.val % 8 = (pi t).val) :=
  (by decide +kernel : ∀ t : Fin grid0.N, t.val % 8 = (grid0.coords t 2).val)

theorem idx0 : ∀ t : Fin cfg0.N, win0_0.index t = ![(grid0.coords t 0).val * 8 + (grid0.coords t 2).val, (grid0.coords t 1).val] :=
  (by decide +kernel : ∀ t : Fin grid0.N, _)
theorem idx1 : ∀ t : Fin cfg0.N, win0_1.index t = ![(grid0.coords t 0).val * 8 + ((grid0.coords t 2).val - 1), 16 + (grid0.coords t 1).val] :=
  (by decide +kernel : ∀ t : Fin grid0.N, _)
theorem idx2 : ∀ t : Fin cfg0.N, win0_2.index t = ![(grid0.coords t 0).val * 8 + (grid0.coords t 2).val, 16 + (grid0.coords t 1).val] :=
  (by decide +kernel : ∀ t : Fin grid0.N, _)
theorem idx3 : ∀ t : Fin cfg0.N, win0_3.index t = ![(grid0.coords t 0).val * 8 + ((grid0.coords t 2).val - 1), 32 + (grid0.coords t 1).val] :=
  (by decide +kernel : ∀ t : Fin grid0.N, _)
theorem idx4 : ∀ t : Fin cfg0.N, win0_4.index t = ![(grid0.coords t 0).val * 8 + (grid0.coords t 2).val, 32 + (grid0.coords t 1).val] :=
  (by decide +kernel : ∀ t : Fin grid0.N, _)
theorem idx5 : ∀ t : Fin cfg0.N, win0_5.index t = ![(grid0.coords t 1).val, 0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![(grid0.coords t 0).val * 8 + (grid0.coords t 2).val, (grid0.coords t 1).val] :=
  (by decide +kernel : ∀ t : Fin grid0.N, _)
theorem idx8 : ∀ t : Fin cfg0.N, win0_8.index t = ![(grid0.coords t 0).val, (grid0.coords t 1).val] :=
  (by decide +kernel : ∀ t : Fin grid0.N, _)
theorem idx9 : ∀ t : Fin cfg0.N, win0_9.index t = ![(grid0.coords t 0).val, (grid0.coords t 1).val] :=
  (by decide +kernel : ∀ t : Fin grid0.N, _)

/-- The query block at a row and a coordinate. -/
theorem blk0 (c : Dev nD) (t : Fin cfg0.N) (y : Fin 512) (d : Fin 128) :
    iblk m c 0 t (ix2 y d) = m ((c : Thread nD τ).loc main_arg0)
      (ix2 ⟨((pb t).val * 8 + (pi t).val) * 512 + y.val, by omega⟩ ⟨(ph t).val * 128 + d.val, by omega⟩) := by
  blk_simp [iblk]
  rw [V_main_arg0]
  exact congrArg (m ((c : Thread nD τ).loc main_arg0)) (by blk_ext [idx0])

/-- The key block before the block at a row and a coordinate. -/
theorem blk1 (c : Dev nD) (t : Fin cfg0.N) (y : Fin 512) (d : Fin 128) :
    iblk m c 1 t (ix2 y d) = m ((c : Thread nD τ).loc main_arg0)
      (ix2 ⟨((pb t).val * 8 + ((pi t).val - 1)) * 512 + y.val, by omega⟩ ⟨(16 + (ph t).val) * 128 + d.val, by omega⟩) := by
  blk_simp [iblk]
  rw [V_main_arg0]
  exact congrArg (m ((c : Thread nD τ).loc main_arg0)) (by blk_ext [idx1])

/-- The key block at a row and a coordinate. -/
theorem blk2 (c : Dev nD) (t : Fin cfg0.N) (y : Fin 512) (d : Fin 128) :
    iblk m c 2 t (ix2 y d) = m ((c : Thread nD τ).loc main_arg0)
      (ix2 ⟨((pb t).val * 8 + (pi t).val) * 512 + y.val, by omega⟩ ⟨(16 + (ph t).val) * 128 + d.val, by omega⟩) := by
  blk_simp [iblk]
  rw [V_main_arg0]
  exact congrArg (m ((c : Thread nD τ).loc main_arg0)) (by blk_ext [idx2])

/-- The value block before the block at a row and a coordinate. -/
theorem blk3 (c : Dev nD) (t : Fin cfg0.N) (y : Fin 512) (d : Fin 128) :
    iblk m c 3 t (ix2 y d) = m ((c : Thread nD τ).loc main_arg0)
      (ix2 ⟨((pb t).val * 8 + ((pi t).val - 1)) * 512 + y.val, by omega⟩ ⟨(32 + (ph t).val) * 128 + d.val, by omega⟩) := by
  blk_simp [iblk]
  rw [V_main_arg0]
  exact congrArg (m ((c : Thread nD τ).loc main_arg0)) (by blk_ext [idx3])

/-- The value block at a row and a coordinate. -/
theorem blk4 (c : Dev nD) (t : Fin cfg0.N) (y : Fin 512) (d : Fin 128) :
    iblk m c 4 t (ix2 y d) = m ((c : Thread nD τ).loc main_arg0)
      (ix2 ⟨((pb t).val * 8 + (pi t).val) * 512 + y.val, by omega⟩ ⟨(32 + (ph t).val) * 128 + d.val, by omega⟩) := by
  blk_simp [iblk]
  rw [V_main_arg0]
  exact congrArg (m ((c : Thread nD τ).loc main_arg0)) (by blk_ext [idx4])

/-- The row of the table of biases for the head. -/
theorem blk5 (c : Dev nD) (t : Fin cfg0.N) (a : Fin 768) :
    iblk m c 5 t (ix3 0 0 a) = V m c main_v13 (ix3 (ph t) 0 a) := by
  blk_simp [iblk]
  exact congrArg (V m c main_v13) (by blk_ext [idx5])

/-- The band, whole at every point. -/
theorem blk6 (c : Dev nD) (t : Fin cfg0.N) (r : Fin 128) (w : Fin 640) :
    iblk m c 6 t (ix2 r w) = V m c main_v34 (ix2 r w) := by
  blk_simp [iblk]
  exact congrArg (V m c main_v34) (by blk_ext [idx6])

/-- What a grid point leaves in the result's block. -/
theorem after7 (c : Dev nD) (t : Fin cfg0.N) : (dats m 0 c).after 7 t
    = blockOut (pi t) (iblk m c 0 t) (iblk m c 1 t) (iblk m c 2 t) (iblk m c 3 t) (iblk m c 4 t) (iblk m c 5 t) (iblk m c 6 t) := by
  rw [after0_7]
  by_cases h : t.val % 8 = 7
  · rw [outsAt0_B m c t h]
    dsimp only
    rw [out_B_7]
  · rw [outsAt0_A m c t h]
    dsimp only
    rw [out_A_7]

theorem after8 (c : Dev nD) (t : Fin cfg0.N) (h : t.val % 8 = 7) : (dats m 0 c).after 8 t = iblk m c 2 t := by
  rw [after0_8, outsAt0_B m c t h]
  dsimp only
  rw [out_B_8]

theorem after9 (c : Dev nD) (t : Fin cfg0.N) (h : t.val % 8 = 7) : (dats m 0 c).after 9 t = iblk m c 4 t := by
  rw [after0_9, outsAt0_B m c t h]
  dsimp only
  rw [out_B_9]

/-- The result after the run: on the prompt's rows what the blocks hold, below them what was there. -/
theorem final7 (c : Dev nD) (G : S8704x2048.Idx → EReal)
    (hG : ∀ (t : Fin cfg0.N) (y : Fin 512) (d : Fin 128),
      tileOut (pi t) (iblk m c 0 t) (iblk m c 1 t) (iblk m c 2 t) (iblk m c 3 t) (iblk m c 4 t) (iblk m c 5 t) (iblk m c 6 t) y d
        = G (ix2 ⟨((pb t).val * 8 + (pi t).val) * 512 + y.val, by omega⟩ ⟨(ph t).val * 128 + d.val, by omega⟩)) :
    (dats m 0 c).arrAt 7 cfg0.N = fun i => if (i 0 : ℕ) / 512 < 16 then G i else (dats m 0 c).A 7 i := by
  refine (dats m 0 c).arrAt_eq_of_coversWhere 7 _ (fun β => β (0 : Fin 2) < 16) (by decide +kernel) (fun t hf y => ?_) (fun j => Iff.rfl)
  blk_simp
  rw [after7]
  refine (hG t (y 0) (y 1)).trans (congrArg G ?_)
  have h0 : (y 0).val < 512 := (y 0).isLt
  have h1 : (y 1).val < 128 := (y 1).isLt
  blk_ext [idx7]

/-- The tail of the keys after the run: the last block of each batch. -/
theorem final8 (c : Dev nD) (b : Fin 2) (n : Fin 512) (h : Fin 16) (d : Fin 128) :
    (dats m 0 c).arrAt 8 cfg0.N (ix2 ⟨b.val * 512 + n.val, by omega⟩ ⟨h.val * 128 + d.val, by omega⟩)
      = m ((c : Thread nD τ).loc main_arg0) (ix2 ⟨b.val * 4096 + 3584 + n.val, by omega⟩ ⟨(16 + h.val) * 128 + d.val, by omega⟩) := by
  have key : (dats m 0 c).arrAt 8 cfg0.N = fun i : S1024x2048.Idx => m ((c : Thread nD τ).loc main_arg0)
      (ix2 ⟨(i 0).val / 512 * 4096 + 3584 + (i 0).val % 512, by have : (i 0).val < 1024 := (i 0).isLt; omega⟩
        ⟨2048 + (i 1).val, by have : (i 1).val < 2048 := (i 1).isLt; omega⟩) := by
    refine (dats m 0 c).arrAt_eq_of_covers 8 _ (by decide +kernel) fun t hf y => ?_
    have hm := (flush0_8 t).mp hf
    have hp := mod_facts t
    have h0 : (y 0).val < 512 := (y 0).isLt
    have h1 : (y 1).val < 128 := (y 1).isLt
    blk_simp
    rw [after8 m c t hm]
    refine (congrArg (iblk m c 2 t) (eq_ix2 (n0 := 512) (n1 := 128) y)).trans ((blk2 m c t (y 0) (y 1)).trans ?_)
    refine congrArg (m ((c : Thread nD τ).loc main_arg0)) ?_
    blk_ext [idx8]
    all_goals
      have e0 : (pb t).val = (grid0.coords t 0).val := rfl
      have e1 : (ph t).val = (grid0.coords t 1).val := rfl
      omega
  rw [key]
  refine congrArg (m ((c : Thread nD τ).loc main_arg0)) (congrArg₂ ix2 (Fin.ext ?_) (Fin.ext ?_))
  · show (b.val * 512 + n.val) / 512 * 4096 + 3584 + (b.val * 512 + n.val) % 512 = b.val * 4096 + 3584 + n.val
    omega
  · show 2048 + (h.val * 128 + d.val) = (16 + h.val) * 128 + d.val
    omega

/-- The tail of the values after the run: the last block of each batch. -/
theorem final9 (c : Dev nD) (b : Fin 2) (n : Fin 512) (h : Fin 16) (d : Fin 128) :
    (dats m 0 c).arrAt 9 cfg0.N (ix2 ⟨b.val * 512 + n.val, by omega⟩ ⟨h.val * 128 + d.val, by omega⟩)
      = m ((c : Thread nD τ).loc main_arg0) (ix2 ⟨b.val * 4096 + 3584 + n.val, by omega⟩ ⟨(32 + h.val) * 128 + d.val, by omega⟩) := by
  have key : (dats m 0 c).arrAt 9 cfg0.N = fun i : S1024x2048.Idx => m ((c : Thread nD τ).loc main_arg0)
      (ix2 ⟨(i 0).val / 512 * 4096 + 3584 + (i 0).val % 512, by have : (i 0).val < 1024 := (i 0).isLt; omega⟩
        ⟨4096 + (i 1).val, by have : (i 1).val < 2048 := (i 1).isLt; omega⟩) := by
    refine (dats m 0 c).arrAt_eq_of_covers 9 _ (by decide +kernel) fun t hf y => ?_
    have hm := (flush0_9 t).mp hf
    have hp := mod_facts t
    have h0 : (y 0).val < 512 := (y 0).isLt
    have h1 : (y 1).val < 128 := (y 1).isLt
    blk_simp
    rw [after9 m c t hm]
    refine (congrArg (iblk m c 4 t) (eq_ix2 (n0 := 512) (n1 := 128) y)).trans ((blk4 m c t (y 0) (y 1)).trans ?_)
    refine congrArg (m ((c : Thread nD τ).loc main_arg0)) ?_
    blk_ext [idx9]
    all_goals
      have e0 : (pb t).val = (grid0.coords t 0).val := rfl
      have e1 : (ph t).val = (grid0.coords t 1).val := rfl
      omega
  rw [key]
  refine congrArg (m ((c : Thread nD τ).loc main_arg0)) (congrArg₂ ix2 (Fin.ext ?_) (Fin.ext ?_))
  · show (b.val * 512 + n.val) / 512 * 4096 + 3584 + (b.val * 512 + n.val) % 512 = b.val * 4096 + 3584 + n.val
    omega
  · show 4096 + (h.val * 128 + d.val) = (32 + h.val) * 128 + d.val
    omega

end Cert.Arr
end
end
-- ==== Proof.Cols.lean ====
/- Columns of a table taken by a tensor of column numbers: the operation read at one entry. -/
module

public import Idealize.ShloMosaic.Lib.ValueIdx
public import Idealize.ShloMosaic.Lib.Pipeline.Value

@[expose] public section

noncomputable section

namespace Cert.Cols

open Idealize.ShloMosaic Idealize.ShloMosaic.ValueIdx

/-- Columns by a matrix of numbers. -/
abbrev dims3 (R N A B : Nat)
    (wf : GatherDims.WF ⟨2, ![R, N]⟩ ⟨3, ![A, B, 1]⟩ ⟨3, ![R, A, B]⟩ [0] [1] [] [1] [] 2 ![R, 1]) :
    GatherDims ⟨2, ![R, N]⟩ ⟨3, ![A, B, 1]⟩ ⟨3, ![R, A, B]⟩ where
  offsetDims := [0]
  collapsedSliceDims := [1]
  operandBatchingDims := []
  startIndicesBatchingDims := []
  startIndexMap := [1]
  indexVectorDim := 2
  sliceSizes := ![R, 1]
  wf := wf

/-- Columns by a row of numbers. -/
abbrev dims2 (R N A : Nat)
    (wf : GatherDims.WF ⟨2, ![R, N]⟩ ⟨2, ![A, 1]⟩ ⟨2, ![R, A]⟩ [0] [1] [] [1] [] 1 ![R, 1]) :
    GatherDims ⟨2, ![R, N]⟩ ⟨2, ![A, 1]⟩ ⟨2, ![R, A]⟩ where
  offsetDims := [0]
  collapsedSliceDims := [1]
  operandBatchingDims := []
  startIndicesBatchingDims := []
  startIndexMap := [1]
  indexVectorDim := 1
  sliceSizes := ![R, 1]
  wf := wf

theorem gather3 {α : Type} {R N A B w : Nat} (hN : 0 < N)
    (wf : GatherDims.WF ⟨2, ![R, N]⟩ ⟨3, ![A, B, 1]⟩ ⟨3, ![R, A, B]⟩ [0] [1] [] [1] [] 2 ![R, 1])
    (x : (⟨2, ![R, N]⟩ : Shape).Idx → α) (idx : IVec ⟨3, ![A, B, 1]⟩ w) (h : Fin R) (q : Fin A) (k : Fin B) :
    Host.gather (dims3 R N A B wf) x idx (ix3 h q k)
      = x (ix2 h ⟨min (idx (ix3 q k 0)).toInt.toNat (N - 1), by omega⟩) := by
  unfold Host.gather
  congr 1
  funext a
  refine Fin.ext ?_
  show (dims3 R N A B wf).start (ix3 h q k) idx a + (dims3 R N A B wf).batchCoord (ix3 h q k) a
    + (dims3 R N A B wf).offCoord (ix3 h q k) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · unfold GatherDims.start GatherDims.offCoord
    rw [dif_neg (show ¬ (0 : Fin 2) ∈ (dims3 R N A B wf).startIndexMap from fun hh => absurd (List.mem_singleton.mp hh) Fin.zero_ne_one),
      dif_pos (show (0 : Fin 2) ∈ (dims3 R N A B wf).sKept from (GatherDims.mem_sKept _ _).mpr
        ⟨fun hh => absurd (List.mem_singleton.mp hh) Fin.zero_ne_one, List.not_mem_nil⟩)]
    simp only [Nat.zero_add]
    rfl
  · rw [GatherDims.offCoord_eq_zero _ _ _ (fun hh => ((GatherDims.mem_sKept _ _).mp hh).1 (List.mem_singleton.mpr rfl))]
    simp only [Nat.add_zero]
    unfold GatherDims.start
    rw [dif_pos (show (1 : Fin 2) ∈ (dims3 R N A B wf).startIndexMap from List.mem_singleton.mpr rfl)]
    have hsi : (dims3 R N A B wf).siIdx (ix3 h q k) ⟨List.idxOf (1 : Fin 2) (dims3 R N A B wf).startIndexMap,
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi]
    rfl

theorem gather2 {α : Type} {R N A w : Nat} (hN : 0 < N)
    (wf : GatherDims.WF ⟨2, ![R, N]⟩ ⟨2, ![A, 1]⟩ ⟨2, ![R, A]⟩ [0] [1] [] [1] [] 1 ![R, 1])
    (x : (⟨2, ![R, N]⟩ : Shape).Idx → α) (idx : IVec ⟨2, ![A, 1]⟩ w) (h : Fin R) (q : Fin A) :
    Host.gather (dims2 R N A wf) x idx (ix2 h q)
      = x (ix2 h ⟨min (idx (ix2 q 0)).toInt.toNat (N - 1), by omega⟩) := by
  unfold Host.gather
  congr 1
  funext a
  refine Fin.ext ?_
  show (dims2 R N A wf).start (ix2 h q) idx a + (dims2 R N A wf).batchCoord (ix2 h q) a
    + (dims2 R N A wf).offCoord (ix2 h q) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · unfold GatherDims.start GatherDims.offCoord
    rw [dif_neg (show ¬ (0 : Fin 2) ∈ (dims2 R N A wf).startIndexMap from fun hh => absurd (List.mem_singleton.mp hh) Fin.zero_ne_one),
      dif_pos (show (0 : Fin 2) ∈ (dims2 R N A wf).sKept from (GatherDims.mem_sKept _ _).mpr
        ⟨fun hh => absurd (List.mem_singleton.mp hh) Fin.zero_ne_one, List.not_mem_nil⟩)]
    simp only [Nat.zero_add]
    rfl
  · rw [GatherDims.offCoord_eq_zero _ _ _ (fun hh => ((GatherDims.mem_sKept _ _).mp hh).1 (List.mem_singleton.mpr rfl))]
    simp only [Nat.add_zero]
    unfold GatherDims.start
    rw [dif_pos (show (1 : Fin 2) ∈ (dims2 R N A wf).startIndexMap from List.mem_singleton.mpr rfl)]
    have hsi : (dims2 R N A wf).siIdx (ix2 h q) ⟨List.idxOf (1 : Fin 2) (dims2 R N A wf).startIndexMap,
        List.idxOf_lt_length_iff.2 (List.mem_singleton.mpr rfl)⟩ = ix2 q 0 := by
      funext b; refine Fin.ext ?_
      match b with
      | ⟨0, _⟩ => rfl
      | ⟨1, _⟩ => rfl
    rw [hsi]
    rfl

end Cert.Cols
end
end
-- ==== Proof.RefValue.lean ====
/- The reference attention read at one entry: the masked score of a query and a key, and the softmax average of the
   values. -/
module

public import proofs.«01_k».proof.Proof.Gen.ReferenceIdeal.Read
public import proofs.«01_k».proof.Proof.Words
public import proofs.«01_k».proof.Proof.Cols
public import proofs.«01_k».proof.Proof.Tile
public import Idealize.ShloMosaic.Lib.ValueIdx
public import Idealize.ShloMosaic.Lib.Pipeline.Value
public import Idealize.ShloMosaic.PureOps.Ideal.Laws

@[expose] public section

noncomputable section

namespace Cert.RefValue

open Idealize.ShloMosaic Idealize.ShloMosaic.ValueIdx
open Cert.ReferenceIdeal Cert.ReferenceIdeal.Read Cert.ReferenceIdeal.Facts

/-- The entry of the projection that holds coordinate `d` of head `h` of part `p` (0 queries, 1 keys, 2 values) at
    position `n` of sequence `b`. -/
abbrev at3 (p : Fin 3) (b : Fin 2) (n : Fin 4096) (h : Fin 16) (d : Fin 128) : S8704x6144.Idx :=
  ix2 ⟨b.val * 4096 + n.val, by omega⟩ ⟨p.val * 2048 + h.val * 128 + d.val, by omega⟩

/-- The column of the bias table for a query `q` and a key `k`, `e` being `q + 4096 − k`. -/
abbrev rel (e : Nat) : Fin 257 := ⟨min 256 (e - 3968), by omega⟩

/-- A key's chunk is the query's chunk or one of the eight before it. -/
abbrev visible (q k : Fin 4096) : Prop := k.val / 64 ≤ q.val / 64 ∧ q.val / 64 ≤ k.val / 64 + 8

/-- The reference's score of a query and a key, minus infinity for a hidden key. -/
def score (x0 : S8704x6144.Idx → EReal) (x1 : S16x257.Idx → EReal) (b : Fin 2) (h : Fin 16) (q k : Fin 4096) : EReal :=
  if visible q k then
    (∑ d : Fin 128, x0 (at3 0 b q h d) * x0 (at3 1 b k h d)) * (((1 / Real.sqrt 128 : ℝ)) : EReal)
      + x1 (ix2 h (rel (q.val + 4096 - k.val)))
  else ⊥

/-- The reference's result: the average of the values, weighted by the softmax of the scores. -/
def attn (x0 : S8704x6144.Idx → EReal) (x1 : S16x257.Idx → EReal) (b : Fin 2) (h : Fin 16) (q : Fin 4096) (d : Fin 128) : EReal :=
  ∑ k : Fin 4096, x0 (at3 2 b k h d) * Ideal.div
    (Ideal.exp (score x0 x1 b h q k - Finset.univ.fold max ⊥ (score x0 x1 b h q)))
    (∑ k : Fin 4096, Ideal.exp (score x0 x1 b h q k - Finset.univ.fold max ⊥ (score x0 x1 b h q)))

variable (x0 : S8704x6144.Idx → EReal) (x1 : S16x257.Idx → EReal)

/-- The three parts of the projection, split in heads. -/
theorem v1_at (b : Fin 2) (n : Fin 4096) (c : Fin 6144) :
    val_main_v1 (F := Ideal) x0 (ix3 b n c) = x0 (ix2 ⟨b.val * 4096 + n.val, by omega⟩ c) := by
  rw [val_main_v1_apply, val_main_v0_apply]
  refine congrArg x0 (funext fun a => Fin.ext ?_)
  match a with
  | ⟨0, _⟩ => show ((b.val * 4096 + n.val) * 6144 + c.val) / 6144 = b.val * 4096 + n.val; omega
  | ⟨1, _⟩ => show ((b.val * 4096 + n.val) * 6144 + c.val) % 6144 = c.val; omega

theorem v3_at (b : Fin 2) (n : Fin 4096) (h : Fin 16) (d : Fin 128) :
    val_main_v3 (F := Ideal) x0 (ix4 b n h d) = x0 (at3 0 b n h d) := by
  rw [val_main_v3_apply, val_main_v2_apply]
  refine (congrArg _ (funext fun a => Fin.ext ?_)).trans (v1_at x0 b n ⟨0 * 2048 + h.val * 128 + d.val, by omega⟩)
  match a with
  | ⟨0, _⟩ => show (((b.val * 4096 + n.val) * 16 + h.val) * 128 + d.val) / 8388608 = b.val; omega
  | ⟨1, _⟩ => show (((b.val * 4096 + n.val) * 16 + h.val) * 128 + d.val) / 2048 % 4096 = n.val; omega
  | ⟨2, _⟩ => show (((b.val * 4096 + n.val) * 16 + h.val) * 128 + d.val) % 2048 = 0 * 2048 + h.val * 128 + d.val; omega

theorem v5_at (b : Fin 2) (n : Fin 4096) (h : Fin 16) (d : Fin 128) :
    val_main_v5 (F := Ideal) x0 (ix4 b n h d) = x0 (at3 1 b n h d) := by
  rw [val_main_v5_apply, val_main_v4_apply]
  refine (congrArg _ (funext fun a => Fin.ext ?_)).trans (v1_at x0 b n ⟨1 * 2048 + h.val * 128 + d.val, by omega⟩)
  match a with
  | ⟨0, _⟩ => show (((b.val * 4096 + n.val) * 16 + h.val) * 128 + d.val) / 8388608 = b.val; omega
  | ⟨1, _⟩ => show (((b.val * 4096 + n.val) * 16 + h.val) * 128 + d.val) / 2048 % 4096 = n.val; omega
  | ⟨2, _⟩ => show 2048 + (((b.val * 4096 + n.val) * 16 + h.val) * 128 + d.val) % 2048 = 1 * 2048 + h.val * 128 + d.val; omega

theorem v7_at (b : Fin 2) (n : Fin 4096) (h : Fin 16) (d : Fin 128) :
    val_main_v7 (F := Ideal) x0 (ix4 b n h d) = x0 (at3 2 b n h d) := by
  rw [val_main_v7_apply, val_main_v6_apply]
  refine (congrArg _ (funext fun a => Fin.ext ?_)).trans (v1_at x0 b n ⟨2 * 2048 + h.val * 128 + d.val, by omega⟩)
  match a with
  | ⟨0, _⟩ => show (((b.val * 4096 + n.val) * 16 + h.val) * 128 + d.val) / 8388608 = b.val; omega
  | ⟨1, _⟩ => show (((b.val * 4096 + n.val) * 16 + h.val) * 128 + d.val) / 2048 % 4096 = n.val; omega
  | ⟨2, _⟩ => show 4096 + (((b.val * 4096 + n.val) * 16 + h.val) * 128 + d.val) % 2048 = 2 * 2048 + h.val * 128 + d.val; omega

/-- The square root of 128, as the program computes it. -/
theorem sqrt_val (i : S_.Idx) : val_main_v11 (F := Ideal) i = ((Real.sqrt 128 : ℝ) : EReal) := by
  rw [val_main_v11_apply, val_main_cst_apply]
  show Ideal.sqrt (Ideal.ofBits .f32 0x43000000#32) = _
  rw [Tile.ofBits_128]
  exact if_neg (by norm_num)

/-- The scaled product of a query and a key. -/
theorem v13_at (b : Fin 2) (h : Fin 16) (q k : Fin 4096) :
    val_main_v13 (F := Ideal) x0 (ix4 b h q k)
      = (∑ d : Fin 128, x0 (at3 0 b q h d) * x0 (at3 1 b k h d)) * (((1 / Real.sqrt 128 : ℝ)) : EReal) := by
  rw [val_main_v13_apply, val_main_v12_apply, sqrt_val, val_main_v10_apply]
  show Ideal.div _ _ = _
  rw [Ideal.div_coe (by positivity)]
  refine congrArg (· * _) (Finset.sum_congr rfl fun d _ => ?_)
  exact congrArg₂ (· * ·)
    ((congrArg _ (funext fun a => Fin.ext (by match a with | ⟨0, _⟩ => rfl | ⟨1, _⟩ => rfl | ⟨2, _⟩ => rfl | ⟨3, _⟩ => rfl))).trans (v3_at x0 b q h d))
    ((congrArg _ (funext fun a => Fin.ext (by match a with | ⟨0, _⟩ => rfl | ⟨1, _⟩ => rfl | ⟨2, _⟩ => rfl | ⟨3, _⟩ => rfl))).trans (v5_at x0 b k h d))

/-- The index of the bias of a query and a key. -/
theorem v27_at (q k : Fin 4096) :
    val_main_v27 (F := Ideal) (ix3 q k 0) = Words.relW (BitVec.ofNat 32 (q.val + 4096 - k.val) - 4096#32) := by
  rw [← Words.sub_ofNat q.val k.val (by omega)]
  rfl

/-- The table of biases read through the index. -/
theorem gather_at (idx : IVec S4096x4096x1 32) (h : Fin 16) (q k : Fin 4096) :
    Host.gather gather_S16x257_S4096x4096x1_S16x4096x4096_0_1_n_n_1_2_161 x1 idx (ix3 h q k)
      = x1 (ix2 h ⟨min (idx (ix3 q k 0)).toInt.toNat 256, by omega⟩) :=
  Cols.gather3 (by norm_num) _ x1 idx h q k

/-- The bias of a query and a key. -/
theorem v30_at (b : Fin 2) (h : Fin 16) (q k : Fin 4096) :
    val_main_v30 (F := Ideal) x1 (ix4 b h q k) = x1 (ix2 h (rel (q.val + 4096 - k.val))) := by
  rw [val_main_v30_apply, val_main_v29_apply]
  have e : idx_main_v29 (idx_main_v30 (ix4 b h q k)) = ix3 h q k :=
    funext fun a => Fin.ext (by match a with | ⟨0, _⟩ => rfl | ⟨1, _⟩ => rfl | ⟨2, _⟩ => rfl)
  rw [e]
  unfold val_main_v28
  rw [gather_at]
  refine congrArg (fun z => x1 (ix2 h z)) (Fin.ext ?_)
  refine (congrArg (fun z : BitVec 32 => min z.toInt.toNat 256) (v27_at q k)).trans ?_
  exact Words.relW_ofNat ⟨q.val + 4096 - k.val, by omega⟩

/-- The chunk of a query. -/
theorem v32_at (q : Fin 4096) : val_main_v32 (F := Ideal) (ix1 q) = BitVec.ofNat 32 (q.val / 64) :=
  (show _ = Words.fdiv (BitVec.ofNat 32 q.val) from rfl).trans (Words.fdiv_ofNat q)

/-- The chunk of a key. -/
theorem v33_at (k : Fin 4096) : val_main_v33 (F := Ideal) (ix1 k) = BitVec.ofNat 32 (k.val / 64) :=
  (show _ = Words.fdiv (BitVec.ofNat 32 k.val) from rfl).trans (Words.fdiv_ofNat k)

/-- Whether a query sees a key. -/
theorem v51_at (q k : Fin 4096) : val_main_v51 (F := Ideal) (ix2 q k) = if visible q k then 1#1 else 0#1 := by
  have e1 : val_main_v42 (F := Ideal) (ix2 q k) = 1#1 := Words.sge_zero k
  have e2 : val_main_v41 (F := Ideal) (ix2 q k) = if k.val / 64 ≤ q.val / 64 then 1#1 else 0#1 := by
    show IntOp.cmpi .sle (val_main_v33 (F := Ideal) (ix1 k)) (val_main_v32 (F := Ideal) (ix1 q)) = _
    rw [v32_at, v33_at]
    exact Words.sle_chunk ⟨k.val / 64, by omega⟩ ⟨q.val / 64, by omega⟩
  have e3 : val_main_v50 (F := Ideal) (ix2 q k) = if q.val / 64 ≤ k.val / 64 + 8 then 1#1 else 0#1 := by
    show IntOp.cmpi .sge (val_main_v33 (F := Ideal) (ix1 k)) (IntOp.subi (val_main_v32 (F := Ideal) (ix1 q)) 8#32) = _
    rw [v32_at, v33_at]
    exact Words.sge_chunk ⟨k.val / 64, by omega⟩ ⟨q.val / 64, by omega⟩
  rw [val_main_v51_apply, val_main_v43_apply, e1, e2, e3]
  have := Words.andi_ite True (k.val / 64 ≤ q.val / 64)
  rw [if_pos trivial] at this
  rw [this, Words.andi_ite]
  simp only [true_and]

/-- The masked score. -/
theorem v53_at (b : Fin 2) (h : Fin 16) (q k : Fin 4096) :
    val_main_v53 (F := Ideal) x0 x1 (ix4 b h q k) = score x0 x1 b h q k := by
  rw [val_main_v53_apply, val_main_v31_apply, v13_at, v30_at]
  have e1 : val_main_call3_v1 (F := Ideal) (ix4 b h q k) = if visible q k then 1#1 else 0#1 := by
    rw [← v51_at, val_main_call3_v1_apply, val_main_v52_apply]
    exact congrArg _ (funext fun a => Fin.ext (by match a with | ⟨0, _⟩ => rfl | ⟨1, _⟩ => rfl))
  have e2 : val_main_call3_v2 (F := Ideal) (ix4 b h q k) = (⊥ : EReal) := Tile.ninf_val
  rw [e1, e2, Words.select_ite]
  rfl

theorem red3 : S2x16x4096x4096.Reduces [3] S2x16x4096 := by decide

/-- The largest score of a query. -/
theorem v56_at (b : Fin 2) (h : Fin 16) (q : Fin 4096) :
    val_main_v56 (F := Ideal) x0 x1 (ix3 b h q) = Finset.univ.fold max ⊥ (score x0 x1 b h q) := by
  rw [val_main_v56_apply]
  have e1 : val_main_v55 (F := Ideal) (ix3 b h q) = (⊥ : EReal) := Tile.ninf_val
  rw [e1]
  refine (max_eq_right bot_le).trans ?_
  unfold val_main_v54
  refine (Host.reduce_eq_fold_single (max : EReal → EReal → EReal) _ _ _ red3 _ _).trans ?_
  rw [show val_main_cst_9 (F := Ideal) _ = (⊥ : EReal) from Tile.ninf_val]
  refine congrArg (Finset.univ.fold max ⊥) (funext fun k => ?_)
  refine Eq.trans ?_ (v53_at x0 x1 b h q k)
  exact congrArg (val_main_v53 (F := Ideal) x0 x1) (funext fun a => Fin.ext (by match a with | ⟨0, _⟩ => rfl | ⟨1, _⟩ => rfl | ⟨2, _⟩ => rfl | ⟨3, _⟩ => rfl))

/-- The weight of a key before the division. -/
theorem v60_at (b : Fin 2) (h : Fin 16) (q k : Fin 4096) :
    val_main_v60 (F := Ideal) x0 x1 (ix4 b h q k)
      = Ideal.exp (score x0 x1 b h q k - Finset.univ.fold max ⊥ (score x0 x1 b h q)) := by
  rw [val_main_v60_apply, val_main_v59_apply, v53_at, val_main_v58_apply, val_main_v57_apply]
  rw [← v56_at]
  refine congrArg (fun z => Ideal.exp (score x0 x1 b h q k - val_main_v56 (F := Ideal) x0 x1 z)) ?_
  exact funext fun a => Fin.ext (by match a with | ⟨0, _⟩ => rfl | ⟨1, _⟩ => rfl | ⟨2, _⟩ => rfl)

/-- The sum of the weights. -/
theorem v61_at (b : Fin 2) (h : Fin 16) (q : Fin 4096) :
    val_main_v61 (F := Ideal) x0 x1 (ix3 b h q)
      = ∑ k : Fin 4096, Ideal.exp (score x0 x1 b h q k - Finset.univ.fold max ⊥ (score x0 x1 b h q)) := by
  rw [val_main_v61_apply]
  rw [show val_main_cst_11 (F := Ideal) _ = (0 : EReal) from Ideal.ofBits_zero_f32, zero_add]
  refine Finset.sum_congr rfl fun k _ => ?_
  rw [← v60_at]
  exact congrArg (val_main_v60 (F := Ideal) x0 x1) (funext fun a => Fin.ext (by match a with | ⟨0, _⟩ => rfl | ⟨1, _⟩ => rfl | ⟨2, _⟩ => rfl | ⟨3, _⟩ => rfl))

/-- The attention's result. -/
theorem v65_at (b : Fin 2) (h : Fin 16) (d : Fin 128) (q : Fin 4096) :
    val_main_v65 (F := Ideal) x0 x1 (ix4 b h d q) = attn x0 x1 b h q d := by
  rw [val_main_v65_apply]
  unfold attn
  refine Finset.sum_congr rfl fun k _ => ?_
  refine congrArg₂ (· * ·)
    ((congrArg _ (funext fun a => Fin.ext (by match a with | ⟨0, _⟩ => rfl | ⟨1, _⟩ => rfl | ⟨2, _⟩ => rfl | ⟨3, _⟩ => rfl))).trans (v7_at x0 b k h d)) ?_
  refine (congrArg (val_main_v64 (F := Ideal) x0 x1) (show _ = ix4 b h q k from funext fun a => Fin.ext (by match a with | ⟨0, _⟩ => rfl | ⟨1, _⟩ => rfl | ⟨2, _⟩ => rfl | ⟨3, _⟩ => rfl))).trans ?_
  rw [val_main_v64_apply, v60_at, val_main_v63_apply, val_main_v62_apply, ← v61_at]
  refine congrArg (fun z => Ideal.div _ (val_main_v61 (F := Ideal) x0 x1 z)) ?_
  exact funext fun a => Fin.ext (by match a with | ⟨0, _⟩ => rfl | ⟨1, _⟩ => rfl | ⟨2, _⟩ => rfl)

/-- The first result at a row of a prompt: the attention. -/
theorem v70_prompt (x2 : S8704x2048.Idx → EReal) (b : Fin 2) (q : Fin 4096) (h : Fin 16) (d : Fin 128) :
    val_main_v70 (F := Ideal) x0 x1 x2 (ix2 ⟨b.val * 4096 + q.val, by omega⟩ ⟨h.val * 128 + d.val, by omega⟩)
      = attn x0 x1 b h q d := by
  unfold val_main_v70
  rw [concatenate_pair_apply_left (t := S8704x2048) (s₁ := S8192x2048) (s₂ := S512x2048) 0 _ _ _ _ rfl
    (ix2 ⟨b.val * 4096 + q.val, by omega⟩ ⟨h.val * 128 + d.val, by omega⟩) (by intro a; fin_cases a <;> rfl)]
  rw [val_main_v68_apply, val_main_v67_apply, val_main_v66_apply, ← v65_at]
  refine congrArg (val_main_v65 (F := Ideal) x0 x1) (funext fun a => Fin.ext ?_)
  match a with
  | ⟨0, _⟩ => show ((b.val * 4096 + q.val) * 2048 + (h.val * 128 + d.val)) / 8388608 = b.val; omega
  | ⟨1, _⟩ => show ((b.val * 4096 + q.val) * 2048 + (h.val * 128 + d.val)) / 128 % 16 = h.val; omega
  | ⟨2, _⟩ => show ((b.val * 4096 + q.val) * 2048 + (h.val * 128 + d.val)) % 128 = d.val; omega
  | ⟨3, _⟩ => show ((b.val * 4096 + q.val) * 2048 + (h.val * 128 + d.val)) / 2048 % 4096 = q.val; omega

/-- The first result at a row past the prompts: the operand kept. -/
theorem v70_rest (x2 : S8704x2048.Idx → EReal) (r : Fin 512) (c : Fin 2048) :
    val_main_v70 (F := Ideal) x0 x1 x2 (ix2 ⟨8192 + r.val, by omega⟩ c) = x2 (ix2 ⟨8192 + r.val, by omega⟩ c) := by
  unfold val_main_v70
  rw [concatenate_pair_apply_right (t := S8704x2048) (s₁ := S8192x2048) (s₂ := S512x2048) 0 _ _ _ _ rfl rfl
    (ix2 r c) (by intro a ha; match a with | ⟨0, _⟩ => exact absurd rfl ha | ⟨1, _⟩ => rfl)
    (by show r.val + 8192 = 8192 + r.val; omega)]
  rw [val_main_v69_apply]
  exact congrArg x2 (funext fun a => Fin.ext (by match a with | ⟨0, _⟩ => rfl | ⟨1, _⟩ => rfl))

/-- The second result: the last 512 keys of each sequence. -/
theorem v72_at (b : Fin 2) (n : Fin 512) (h : Fin 16) (d : Fin 128) :
    val_main_v72 (F := Ideal) x0 (ix2 ⟨b.val * 512 + n.val, by omega⟩ ⟨h.val * 128 + d.val, by omega⟩)
      = x0 (at3 1 b ⟨3584 + n.val, by omega⟩ h d) := by
  rw [val_main_v72_apply, val_main_v71_apply, ← v5_at x0 b]
  refine congrArg (val_main_v5 (F := Ideal) x0) (funext fun a => Fin.ext ?_)
  match a with
  | ⟨0, _⟩ => show ((b.val * 512 + n.val) * 2048 + (h.val * 128 + d.val)) / 1048576 = b.val; omega
  | ⟨1, _⟩ => show 3584 + ((b.val * 512 + n.val) * 2048 + (h.val * 128 + d.val)) / 2048 % 512 = 3584 + n.val; omega
  | ⟨2, _⟩ => show ((b.val * 512 + n.val) * 2048 + (h.val * 128 + d.val)) / 128 % 16 = h.val; omega
  | ⟨3, _⟩ => show ((b.val * 512 + n.val) * 2048 + (h.val * 128 + d.val)) % 128 = d.val; omega

/-- The third result: the last 512 values of each sequence. -/
theorem v74_at (b : Fin 2) (n : Fin 512) (h : Fin 16) (d : Fin 128) :
    val_main_v74 (F := Ideal) x0 (ix2 ⟨b.val * 512 + n.val, by omega⟩ ⟨h.val * 128 + d.val, by omega⟩)
      = x0 (at3 2 b ⟨3584 + n.val, by omega⟩ h d) := by
  rw [val_main_v74_apply, val_main_v73_apply, ← v7_at x0 b]
  refine congrArg (val_main_v7 (F := Ideal) x0) (funext fun a => Fin.ext ?_)
  match a with
  | ⟨0, _⟩ => show ((b.val * 512 + n.val) * 2048 + (h.val * 128 + d.val)) / 1048576 = b.val; omega
  | ⟨1, _⟩ => show 3584 + ((b.val * 512 + n.val) * 2048 + (h.val * 128 + d.val)) / 2048 % 512 = 3584 + n.val; omega
  | ⟨2, _⟩ => show ((b.val * 512 + n.val) * 2048 + (h.val * 128 + d.val)) / 128 % 16 = h.val; omega
  | ⟨3, _⟩ => show ((b.val * 512 + n.val) * 2048 + (h.val * 128 + d.val)) % 128 = d.val; omega

end Cert.RefValue
end
end
-- ==== Proof.Host.lean ====
/- The two tables the kernel's host lines build: the row of biases of a head along the window, and the band of chunks. -/
module

public import proofs.«01_k».proof.Proof.Gen.KernelIdeal.Value
public import proofs.«01_k».proof.Proof.Words
public import proofs.«01_k».proof.Proof.Cols
public import proofs.«01_k».proof.Proof.Tile
public import proofs.«01_k».proof.Proof.RefValue
public import Idealize.ShloMosaic.Lib.StableHlo.ReadAt

@[expose] public section

noncomputable section

namespace Cert.Host

open Idealize.ShloMosaic hiding ix1 ix2 ix3
open Idealize.ShloMosaic.ValueIdx Idealize.ShloMosaic.TcCoe Idealize.SL.Sem
open Cert.KernelIdeal Cert.KernelIdeal.Gen Cert.KernelIdeal.Facts

variable (m : (ℓ : Loc nD τ sig) → Buf (Elt Ideal) ℓ)

/-- The number of the column of biases at place `a` of the window. -/
theorem idx_at (a : Fin 768) : Cert.Words.relW (639#32 - BitVec.ofNat 32 a.val) = Cert.Words.relW (BitVec.ofNat 32 (4735 - a.val) - 4096#32) := by
  rw [show (639#32 : BitVec 32) = BitVec.ofNat 32 639 from rfl, Cert.Words.sub_ofNat 639 a.val (by omega)]

/-- The table of biases read through a row of column numbers. -/
theorem gather_at (x : S16x257.Idx → EReal) (idx : IVec S768x1 32) (h : Fin 16) (a : Fin 768) :
    Host.gather gather_S16x257_S768x1_S16x768_0_1_n_n_1_1_161 x idx (ix2 h a)
      = x (ix2 h ⟨min (idx (ix2 a 0)).toInt.toNat 256, by omega⟩) :=
  Cert.Cols.gather2 (R := 16) (N := 257) (A := 768) (by omega) gather_S16x257_S768x1_S16x768_0_1_n_n_1_1_161_wf x idx h a

/-- The row of biases of head `h`: place `a` holds the bias of the distance `639 − a`. -/
theorem V_u (c : Dev nD) (h : Fin 16) (a : Fin 768) :
    V m c main_v13 (ix3 h 0 a) = m ((c : Thread nD τ).loc main_arg1) (ix2 h (Cert.RefValue.rel (4735 - a.val))) := by
  unfold_abbrev_sides
  after_reads_at
  have e : (Idealize.ShloMosaic.ix2 (ix3 h (0 : Fin 1) a 0) (ix3 h (0 : Fin 1) a 2) : S16x768.Idx) = ix2 h a :=
    funext fun i => by match i with | ⟨0, _⟩ => rfl | ⟨1, _⟩ => rfl
  refine (congrArg _ e).trans ?_
  rw [gather_at]
  refine congrArg (fun z => m ((c : Thread nD τ).loc main_arg1) (ix2 h z)) (Fin.ext ?_)
  refine (congrArg (fun z : BitVec 32 => min z.toInt.toNat 256) (show _ = Cert.Words.relW (639#32 - BitVec.ofNat 32 a.val) from rfl)).trans ?_
  rw [idx_at]
  exact Cert.Words.relW_ofNat ⟨4735 - a.val, by omega⟩

/-- The band: place `w` of the window is open to query `r` of a tile where its chunk is at most the query's and at
    least the query's less eight. -/
theorem V_band (c : Dev nD) (r : Fin 128) (w : Fin 640) :
    V m c main_v34 (ix2 r w) = if w.val / 64 ≤ (512 + r.val) / 64 ∧ (512 + r.val) / 64 ≤ w.val / 64 + 8 then (0 : EReal) else ⊥ := by
  unfold_abbrev_sides
  after_reads_at
  have e0 : (512#32 + BitVec.ofNat 32 r.val : BitVec 32) = BitVec.ofNat 32 (512 + r.val) := by
    rw [BitVec.ofNat_add]
  have e1 : Cert.Words.fdiv (512#32 + BitVec.ofNat 32 r.val) = BitVec.ofNat 32 ((512 + r.val) / 64) := by
    rw [e0]; exact Cert.Words.fdiv_ofNat ⟨512 + r.val, by omega⟩
  have e2 : Cert.Words.fdiv (BitVec.ofNat 32 w.val) = BitVec.ofNat 32 (w.val / 64) := Cert.Words.fdiv_ofNat ⟨w.val, by omega⟩
  refine (show _ = Scalar.select (IntOp.andi (IntOp.cmpi .sle (Cert.Words.fdiv (BitVec.ofNat 32 w.val)) (Cert.Words.fdiv (512#32 + BitVec.ofNat 32 r.val)))
    (IntOp.cmpi .sge (Cert.Words.fdiv (BitVec.ofNat 32 w.val)) (IntOp.subi (Cert.Words.fdiv (512#32 + BitVec.ofNat 32 r.val)) 8#32)))
    (Ideal.ofBits .f32 0x00000000#32) (Ideal.ofBits .f32 0xFF800000#32) from rfl).trans ?_
  rw [e1, e2, Cert.Words.sle_chunk ⟨w.val / 64, by omega⟩ ⟨(512 + r.val) / 64, by omega⟩,
    Cert.Words.sge_chunk ⟨w.val / 64, by omega⟩ ⟨(512 + r.val) / 64, by omega⟩, Cert.Words.andi_ite, Cert.Words.select_ite]
  refine if_congr Iff.rfl ?_ Cert.Tile.ninf_val
  exact Ideal.ofBits_zero_f32

/-- The result is built over the third argument. -/
theorem V_out (c : Dev nD) : V m c main_v35_0 = m ((c : Thread nD τ).loc main_arg2) := by
  unfold_abbrev_sides
  after_reads_simp
  rfl

end Cert.Host
end
end
-- ==== Proof.Softmax.lean ====
/- Extended-real arithmetic of the attention row: a softmax in base two over a window of keys is the softmax over
   all keys, when the keys outside the window are hidden. -/
module

public import Idealize.ShloMosaic.PureOps.Ideal.Laws

@[expose] public section

noncomputable section

namespace Cert.Softmax

open Idealize.ShloMosaic

/-- A non-negative finite factor passes through a finite sum of extended reals. -/
theorem sum_mul_coe {ι : Type*} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- A sum of real numbers, read in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum over window places, each either empty or naming a key, is the sum over all keys, when no key is named
    twice and the keys that are not named contribute nothing. -/
theorem sum_window {J W : Type*} [Fintype J] [Fintype W] (key : W → Option J)
    (hinj : ∀ w w' j, key w = some j → key w' = some j → w = w') (g : J → EReal)
    (hg : ∀ j, (∀ w, key w ≠ some j) → g j = 0) :
    ∑ w, (key w).elim 0 g = ∑ j, g j := by
  classical
  have h1 : ∀ w, (key w).elim 0 g = ∑ j, if key w = some j then g j else 0 := by
    intro w
    cases h : key w with
    | none => simp
    | some j => simp [Finset.sum_ite_eq, eq_comm]
  rw [Finset.sum_congr rfl fun w _ => h1 w, Finset.sum_comm]
  refine Finset.sum_congr rfl fun j _ => ?_
  by_cases hj : ∃ w, key w = some j
  · obtain ⟨w, hw⟩ := hj
    rw [Finset.sum_eq_single w]
    · rw [if_pos hw]
    · intro w' _ hne
      rw [if_neg fun h => hne (hinj _ _ _ h hw)]
    · intro h; exact absurd (Finset.mem_univ w) h
  · have hj' : ∀ w, key w ≠ some j := fun w h => hj ⟨w, h⟩
    rw [hg j hj']
    exact Finset.sum_eq_zero fun w _ => by rw [if_neg (hj' w)]

/-- Two to the power of a score divided by log 2 is the exponential of the score. -/
theorem exp2_div_log (x : ℝ) : Real.rpow 2 ((Real.log 2)⁻¹ * x) = Real.exp x := by
  have h2 : Real.log 2 ≠ 0 := (Real.log_pos (by norm_num)).ne'
  rw [Real.rpow_eq_pow, Real.rpow_def_of_pos (by norm_num)]
  congr 1
  field_simp

/-- One term: the base-two exponential of the scaled score less the scaled maximum. -/
theorem exp2_term (s : EReal) (hs : s ≠ ⊤) (m : ℝ) :
    Ideal.exp2 (((Real.log 2)⁻¹ : ℝ) * s - ((Real.log 2)⁻¹ * m : ℝ)) = Ideal.exp (s - (m : EReal)) := by
  have hc : 0 < (Real.log 2)⁻¹ := inv_pos.mpr (Real.log_pos (by norm_num))
  induction s using EReal.rec with
  | bot => rw [EReal.coe_mul_bot_of_pos hc]; simp [EReal.bot_sub]
  | top => exact absurd rfl hs
  | coe x =>
    rw [← EReal.coe_mul, ← EReal.coe_sub, ← EReal.coe_sub, Ideal.exp2_coe, Ideal.exp_coe, ← mul_sub, exp2_div_log]

/-- The exponential of a score that is no `+∞`, less a finite maximum, is a non-negative real. -/
theorem exp_term_real (s : EReal) (hs : s ≠ ⊤) (m : ℝ) : ∃ e : ℝ, 0 ≤ e ∧ Ideal.exp (s - (m : EReal)) = (e : EReal) := by
  induction s using EReal.rec with
  | bot => exact ⟨0, le_refl _, by simp [EReal.bot_sub]⟩
  | top => exact absurd rfl hs
  | coe x => exact ⟨Real.exp (x - m), (Real.exp_pos _).le, by rw [← EReal.coe_sub, Ideal.exp_coe]⟩

/-- The attention row. `s` are the masked scores over all keys (`⊥` where hidden), `t` the kernel's scores over a
    window whose places name keys or are empty: the kernel's quotient of sums is the reference's sum of weights
    times values. -/
theorem softmax_window {J W : Type*} [Fintype J] [Fintype W] (key : W → Option J)
    (hinj : ∀ w w' j, key w = some j → key w' = some j → w = w')
    (s v : J → EReal) (t u : W → EReal) (hs : ∀ j, s j ≠ ⊤) (hne : ∃ j, s j ≠ ⊥)
    (ht0 : ∀ w, key w = none → t w = ⊥)
    (ht : ∀ w j, key w = some j → t w = ((Real.log 2)⁻¹ : ℝ) * s j)
    (hu : ∀ w j, key w = some j → u w = v j)
    (hout : ∀ j, (∀ w, key w ≠ some j) → s j = ⊥) :
    Ideal.div (∑ w, Ideal.exp2 (t w - Finset.univ.fold max ⊥ t) * u w) (∑ w, Ideal.exp2 (t w - Finset.univ.fold max ⊥ t))
      = ∑ j, v j * Ideal.div (Ideal.exp (s j - Finset.univ.fold max ⊥ s)) (∑ j, Ideal.exp (s j - Finset.univ.fold max ⊥ s)) := by
  classical
  have hc : 0 < (Real.log 2)⁻¹ := inv_pos.mpr (Real.log_pos (by norm_num))
  have hfs : Finset.univ.fold max ⊥ s = Finset.univ.sup s := rfl
  have hft : Finset.univ.fold max ⊥ t = Finset.univ.sup t := rfl
  obtain ⟨j1, hj1⟩ := hne
  obtain ⟨j0, -, hj0⟩ := Finset.exists_mem_eq_sup (Finset.univ : Finset J) ⟨j1, Finset.mem_univ _⟩ s
  have hle : ∀ j, s j ≤ s j0 := fun j => hj0 ▸ Finset.le_sup (f := s) (Finset.mem_univ j)
  have hb : s j0 ≠ ⊥ := fun h => hj1 (le_bot_iff.mp (h ▸ hle j1))
  obtain ⟨m, hm⟩ : ∃ m : ℝ, s j0 = (m : EReal) := ⟨(s j0).toReal, (EReal.coe_toReal (hs j0) hb).symm⟩
  have hkey0 : ∃ w, key w = some j0 := by
    by_contra h
    exact hb (hout j0 fun w hw => h ⟨w, hw⟩)
  obtain ⟨w0, hw0⟩ := hkey0
  have htop : Finset.univ.sup t = (((Real.log 2)⁻¹ * m : ℝ) : EReal) := by
    refine le_antisymm (Finset.sup_le fun w _ => ?_) ?_
    · cases hk : key w with
      | none => rw [ht0 w hk]; exact bot_le
      | some j =>
        rw [ht w j hk, EReal.coe_mul, ← hm]
        exact mul_le_mul_of_nonneg_left (hle j) (by exact_mod_cast hc.le)
    · rw [EReal.coe_mul, ← hm, ← ht w0 j0 hw0]
      exact Finset.le_sup (f := t) (Finset.mem_univ w0)
  rw [hfs, hft, hj0, hm, htop]
  choose e he0 he using fun j => exp_term_real (s j) (hs j) m
  have hterm : ∀ w, Ideal.exp2 (t w - (((Real.log 2)⁻¹ * m : ℝ) : EReal)) = (key w).elim 0 (fun j => (e j : EReal)) := by
    intro w
    cases hk : key w with
    | none => rw [ht0 w hk]; simp [EReal.bot_sub]
    | some j => rw [ht w j hk, exp2_term _ (hs j) m, he]; rfl
  have hzero : ∀ j, (∀ w, key w ≠ some j) → e j = 0 := by
    intro j hj
    have := he j
    rw [hout j hj] at this
    simp only [EReal.bot_sub, Ideal.exp_bot] at this
    exact_mod_cast this.symm
  have hl : (∑ w, Ideal.exp2 (t w - (((Real.log 2)⁻¹ * m : ℝ) : EReal))) = ((∑ j, e j : ℝ) : EReal) := by
    rw [Finset.sum_congr rfl fun w _ => hterm w, sum_window key hinj _ fun j hj => by rw [hzero j hj]; rfl, coe_sum]
  have hn : (∑ w, Ideal.exp2 (t w - (((Real.log 2)⁻¹ * m : ℝ) : EReal)) * u w) = ∑ j, (e j : EReal) * v j := by
    rw [← sum_window key hinj (fun j => (e j : EReal) * v j) fun j hj => by rw [hzero j hj]; simp]
    refine Finset.sum_congr rfl fun w _ => ?_
    rw [hterm w]
    cases hk : key w with
    | none => simp
    | some j => rw [hu w j hk]; rfl
  have hr : (∑ j, Ideal.exp (s j - (m : EReal))) = ((∑ j, e j : ℝ) : EReal) := by
    rw [Finset.sum_congr rfl fun j _ => he j, coe_sum]
  have hpos : 0 < ∑ j, e j := by
    refine Finset.sum_pos' (fun j _ => he0 j) ⟨j0, Finset.mem_univ _, ?_⟩
    have := he j0
    rw [hm, ← EReal.coe_sub, Ideal.exp_coe, EReal.coe_eq_coe_iff] at this
    rw [← this]; exact Real.exp_pos _
  rw [hl, hn, hr, Ideal.div_coe hpos.ne', sum_mul_coe _ _ (by positivity)]
  refine Finset.sum_congr rfl fun j _ => ?_
  rw [he, Ideal.div_coe hpos.ne', mul_comm (e j : EReal) (v j), mul_assoc]

end Cert.Softmax
end
end
-- ==== Proof.Equation.lean ====
/- The kernel's window of one query and the reference's whole row of keys give the same average of the values. -/
module

public import proofs.«01_k».proof.Proof.Softmax
public import proofs.«01_k».proof.Proof.RefValue
public import proofs.«01_k».proof.Proof.Block

@[expose] public section

noncomputable section

namespace Cert.Equation

open Idealize.ShloMosaic Idealize.ShloMosaic.ValueIdx
open Cert.KernelIdeal Cert.Block Cert.RefValue

/-- A sum of real numbers is real. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The key that query `y` of block `i` meets at place `w` of its window, none before the sequence's start. -/
def key (i : Fin 8) (y : Fin 512) (w : Fin 640) : Option (Fin 4096) :=
  if 512 ≤ i.val * 512 + 128 * (y.val / 128) + w.val then
    some ⟨i.val * 512 + 128 * (y.val / 128) + w.val - 512, by omega⟩
  else none

theorem key_none (i : Fin 8) (y : Fin 512) (w : Fin 640) (h : key i y w = none) :
    ¬ 512 ≤ i.val * 512 + 128 * (y.val / 128) + w.val := by
  intro hw
  rw [key, if_pos hw] at h
  cases h

theorem key_some (i : Fin 8) (y : Fin 512) (w : Fin 640) (j : Fin 4096) (h : key i y w = some j) :
    512 ≤ i.val * 512 + 128 * (y.val / 128) + w.val ∧ j.val = i.val * 512 + 128 * (y.val / 128) + w.val - 512 := by
  by_cases hw : 512 ≤ i.val * 512 + 128 * (y.val / 128) + w.val
  · rw [key, if_pos hw] at h
    cases h
    exact ⟨hw, rfl⟩
  · rw [key, if_neg hw] at h
    cases h

/-- Two stacked blocks of part `p` of the projection hold the row of the key met. -/
theorem stack_key (x0 : S8704x6144.Idx → EReal) (p : Fin 3) (b : Fin 2) (h : Fin 16) (i : Fin 8) (X Y : S512x128.Idx → EReal)
    (hX : 1 ≤ i.val → ∀ (y : Fin 512) (d : Fin 128), X (ix2 y d) = x0 (at3 p b ⟨(i.val - 1) * 512 + y.val, by omega⟩ h d))
    (hY : ∀ (y : Fin 512) (d : Fin 128), Y (ix2 y d) = x0 (at3 p b ⟨i.val * 512 + y.val, by omega⟩ h d))
    (y : Fin 512) (w : Fin 640) (j : Fin 4096) (hk : key i y w = some j) (d : Fin 128) :
    stack X Y (win y w) d = x0 (at3 p b j h d) := by
  obtain ⟨h1, h2⟩ := key_some i y w j hk
  unfold stack
  by_cases hn : 128 * (y.val / 128) + w.val < 512
  · rw [dif_pos hn, hX (by omega)]
    exact congrArg (fun n => x0 (at3 p b n h d)) (Fin.ext (by show (i.val - 1) * 512 + (128 * (y.val / 128) + w.val) = j.val; omega))
  · rw [dif_neg hn, hY]
    exact congrArg (fun n => x0 (at3 p b n h d)) (Fin.ext (by show i.val * 512 + (128 * (y.val / 128) + w.val - 512) = j.val; omega))

/-- The kernel's scaled score and the reference's, over the real numbers. -/
theorem score_real (q k : Fin 128 → ℝ) (u : ℝ) :
    (∑ d : Fin 128, ((q d : EReal) * (((Real.sqrt 128)⁻¹ * (Real.log 2)⁻¹ : ℝ) : EReal)) * (k d : EReal))
        + ((u : EReal) * (((Real.log 2)⁻¹ : ℝ) : EReal) + 0)
      = (((Real.log 2)⁻¹ : ℝ) : EReal)
        * ((∑ d : Fin 128, (q d : EReal) * (k d : EReal)) * ((1 / Real.sqrt 128 : ℝ) : EReal) + (u : EReal)) := by
  simp only [← EReal.coe_mul, coe_sum, add_zero, ← EReal.coe_add]
  refine congrArg _ ?_
  rw [mul_add, Finset.sum_mul, Finset.mul_sum, mul_comm u]
  refine congrArg (fun z => z + _) (Finset.sum_congr rfl fun d _ => ?_)
  rw [one_div]
  ring

/-- A real number plus a real number minus infinity. -/
theorem score_hidden (q k : Fin 128 → ℝ) (u : ℝ) :
    (∑ d : Fin 128, ((q d : EReal) * (((Real.sqrt 128)⁻¹ * (Real.log 2)⁻¹ : ℝ) : EReal)) * (k d : EReal))
        + ((u : EReal) * (((Real.log 2)⁻¹ : ℝ) : EReal) + ⊥)
      = (((Real.log 2)⁻¹ : ℝ) : EReal) * ⊥ := by
  rw [EReal.coe_mul_bot_of_pos (inv_pos.mpr (Real.log_pos (by norm_num))), EReal.add_bot, EReal.add_bot]

/-- The average the kernel forms over a query's window is the reference's average over all keys. -/
theorem tile_eq (x0 : S8704x6144.Idx → EReal) (x1 : S16x257.Idx → EReal) (b : Fin 2) (h : Fin 16) (i : Fin 8)
    (X0 X1 X2 X3 X4 : S512x128.Idx → EReal) (x5 : S1x1x768.Idx → EReal) (x6 : S128x640.Idx → EReal)
    (h0 : ∀ (y : Fin 512) (d : Fin 128), X0 (ix2 y d) = x0 (at3 0 b ⟨i.val * 512 + y.val, by omega⟩ h d))
    (h1 : 1 ≤ i.val → ∀ (y : Fin 512) (d : Fin 128), X1 (ix2 y d) = x0 (at3 1 b ⟨(i.val - 1) * 512 + y.val, by omega⟩ h d))
    (h2 : ∀ (y : Fin 512) (d : Fin 128), X2 (ix2 y d) = x0 (at3 1 b ⟨i.val * 512 + y.val, by omega⟩ h d))
    (h3 : 1 ≤ i.val → ∀ (y : Fin 512) (d : Fin 128), X3 (ix2 y d) = x0 (at3 2 b ⟨(i.val - 1) * 512 + y.val, by omega⟩ h d))
    (h4 : ∀ (y : Fin 512) (d : Fin 128), X4 (ix2 y d) = x0 (at3 2 b ⟨i.val * 512 + y.val, by omega⟩ h d))
    (h5 : ∀ a : Fin 768, x5 (ix3 0 0 a) = x1 (ix2 h (rel (4735 - a.val))))
    (h6 : ∀ (r : Fin 128) (w : Fin 640), x6 (ix2 r w)
      = if w.val / 64 ≤ (512 + r.val) / 64 ∧ (512 + r.val) / 64 ≤ w.val / 64 + 8 then (0 : EReal) else ⊥)
    (hr0 : ∀ p : Fin 3, p.val < 2 → ∀ (n : Fin 4096) (d : Fin 128), ∃ v : ℝ, x0 (at3 p b n h d) = v)
    (hr1 : ∀ e : Fin 257, ∃ v : ℝ, x1 (ix2 h e) = v)
    (y : Fin 512) (d : Fin 128) :
    tileOut i X0 X1 X2 X3 X4 x5 x6 y d = attn x0 x1 b h ⟨i.val * 512 + y.val, by omega⟩ d := by
  choose q hq using fun n => hr0 0 (by decide) n
  choose k hk using fun n => hr0 1 (by decide) n
  choose u hu using hr1
  have hs : ∀ j, score x0 x1 b h ⟨i.val * 512 + y.val, by omega⟩ j
      = if visible ⟨i.val * 512 + y.val, by omega⟩ j then
          (∑ d : Fin 128, (q ⟨i.val * 512 + y.val, by omega⟩ d : EReal) * (k j d : EReal)) * ((1 / Real.sqrt 128 : ℝ) : EReal)
            + (u (rel (i.val * 512 + y.val + 4096 - j.val)) : EReal)
        else ⊥ := by
    intro j
    unfold score
    by_cases hv : visible ⟨i.val * 512 + y.val, by omega⟩ j
    · rw [if_pos hv, if_pos hv, hu]
      refine congrArg (fun z => z * ((1 / Real.sqrt 128 : ℝ) : EReal) + _) (Finset.sum_congr rfl fun e _ => ?_)
      rw [hq, hk]
    · rw [if_neg hv, if_neg hv]
  have hreal : ∀ j, visible ⟨i.val * 512 + y.val, by omega⟩ j →
      ∃ v : ℝ, score x0 x1 b h ⟨i.val * 512 + y.val, by omega⟩ j = v := by
    intro j hv
    rw [hs, if_pos hv]
    simp only [← EReal.coe_mul, coe_sum, ← EReal.coe_add]
    exact ⟨_, rfl⟩
  unfold tileOut attn
  refine Cert.Softmax.softmax_window (key i y) ?_ (score x0 x1 b h ⟨i.val * 512 + y.val, by omega⟩)
    (fun j => x0 (at3 2 b j h d)) (tileScore i X0 X1 X2 x5 x6 y) (fun w => stack X3 X4 (win y w) d) ?_ ?_ ?_ ?_ ?_ ?_
  · intro w w' j hw hw'
    have a := key_some i y w j hw
    have a' := key_some i y w' j hw'
    exact Fin.ext (by omega)
  · intro j
    by_cases hv : visible ⟨i.val * 512 + y.val, by omega⟩ j
    · obtain ⟨v, e⟩ := hreal j hv
      rw [e]
      exact EReal.coe_ne_top v
    · rw [hs, if_neg hv]
      exact bot_ne_top
  · have hv : visible ⟨i.val * 512 + y.val, by omega⟩ ⟨i.val * 512 + y.val, by omega⟩ := ⟨le_refl _, Nat.le_add_right _ _⟩
    obtain ⟨v, e⟩ := hreal _ hv
    exact ⟨_, by rw [e]; exact EReal.coe_ne_bot v⟩
  · intro w hw
    unfold tileScore
    rw [if_neg (key_none i y w hw)]
  · intro w j hw
    obtain ⟨a1, a2⟩ := key_some i y w j hw
    unfold tileScore
    rw [if_pos a1, h5, h6, hs, hu]
    have ed : (∑ d : Fin 128, (X0 (ix2 y d) * (((Real.sqrt 128)⁻¹ * (Real.log 2)⁻¹ : ℝ) : EReal)) * stack X1 X2 (win y w) d)
        = ∑ d : Fin 128, ((q ⟨i.val * 512 + y.val, by omega⟩ d : EReal) * (((Real.sqrt 128)⁻¹ * (Real.log 2)⁻¹ : ℝ) : EReal)) * (k j d : EReal) :=
      Finset.sum_congr rfl fun e _ => by
        rw [h0, hq, stack_key x0 1 b h i X1 X2 h1 h2 y w j hw, hk]
    rw [ed]
    have eb : rel (4735 - (w.val + 127 - y.val % 128)) = rel (i.val * 512 + y.val + 4096 - j.val) :=
      congrArg rel (by omega)
    rw [eb]
    by_cases hv : visible ⟨i.val * 512 + y.val, by omega⟩ j
    · have hv' : j.val / 64 ≤ (i.val * 512 + y.val) / 64 ∧ (i.val * 512 + y.val) / 64 ≤ j.val / 64 + 8 := hv
      rw [if_pos hv, if_pos (by show w.val / 64 ≤ (512 + y.val % 128) / 64 ∧ (512 + y.val % 128) / 64 ≤ w.val / 64 + 8; omega)]
      exact score_real _ _ _
    · have hv' : ¬ (j.val / 64 ≤ (i.val * 512 + y.val) / 64 ∧ (i.val * 512 + y.val) / 64 ≤ j.val / 64 + 8) := hv
      rw [if_neg hv, if_neg (by show ¬ (w.val / 64 ≤ (512 + y.val % 128) / 64 ∧ (512 + y.val % 128) / 64 ≤ w.val / 64 + 8); omega)]
      exact score_hidden _ _ _
  · intro w j hw
    exact stack_key x0 2 b h i X3 X4 h3 h4 y w j hw d
  · intro j hj
    rw [hs, if_neg]
    intro hv
    have hv' : j.val / 64 ≤ (i.val * 512 + y.val) / 64 ∧ (i.val * 512 + y.val) / 64 ≤ j.val / 64 + 8 := hv
    refine hj ⟨j.val + 512 - (i.val * 512 + 128 * (y.val / 128)), by omega⟩ ?_
    rw [key, if_pos (by show 512 ≤ i.val * 512 + 128 * (y.val / 128) + (j.val + 512 - (i.val * 512 + 128 * (y.val / 128))); omega)]
    exact congrArg some (Fin.ext (by
      show i.val * 512 + 128 * (y.val / 128) + (j.val + 512 - (i.val * 512 + 128 * (y.val / 128))) - 512 = j.val
      omega))

end Cert.Equation

end
-- ==== Proof.Value.lean ====
/- The attention kernel's three results after the run are the reference's. -/
module

public import proofs.«01_k».proof.Proof.Arr
public import proofs.«01_k».proof.Proof.Host
public import proofs.«01_k».proof.Proof.Equation
public import proofs.«01_k».proof.Proof.Gen.ReferenceIdeal.Read

@[expose] public section

noncomputable section

namespace Cert.Value

open Idealize.ShloMosaic hiding ix1 ix2 ix3
open Idealize.ShloMosaic.ValueIdx Idealize.ShloMosaic.TcCoe Idealize.SL.Sem
open Cert.KernelIdeal Cert.KernelIdeal.Gen Cert.Block Cert.RefValue Cert.Arr

variable (m : (ℓ : Loc nD τ sig) → Buf (Elt Ideal) ℓ)

/-- The projection, as launched. -/
abbrev qkv (c : Dev nD) : S8704x6144.Idx → EReal := m ((c : Thread nD τ).loc main_arg0)

/-- The table of biases, as launched. -/
abbrev bias (c : Dev nD) : S16x257.Idx → EReal := m ((c : Thread nD τ).loc main_arg1)

/-- The array the result is written over, as launched. -/
abbrev over (c : Dev nD) : S8704x2048.Idx → EReal := m ((c : Thread nD τ).loc main_arg2)

/-- The prompt's queries and keys are real. -/
abbrev RealQK (c : Dev nD) : Prop :=
  ∀ (r : Fin 8192) (d : Fin 4096), ∃ v : ℝ, qkv m c (ix2 ⟨r.val, by omega⟩ ⟨d.val, by omega⟩) = v

/-- What a grid point writes is the reference's attention at the block's rows and the head's columns. -/
theorem block_eq (c : Dev nD) (hq : RealQK m c) (hb : ∀ i, ∃ v : ℝ, bias m c i = v) (t : Fin cfg0.N) (y : Fin 512) (d : Fin 128) :
    tileOut (pi t) (iblk m c 0 t) (iblk m c 1 t) (iblk m c 2 t) (iblk m c 3 t) (iblk m c 4 t) (iblk m c 5 t) (iblk m c 6 t) y d
      = Cert.ReferenceIdeal.Read.val_main_v70 (F := Ideal) (qkv m c) (bias m c) (over m c)
          (ix2 ⟨((pb t).val * 8 + (pi t).val) * 512 + y.val, by omega⟩ ⟨(ph t).val * 128 + d.val, by omega⟩) := by
  have e : (ix2 ⟨((pb t).val * 8 + (pi t).val) * 512 + y.val, by omega⟩ ⟨(ph t).val * 128 + d.val, by omega⟩ : S8704x2048.Idx)
      = ix2 ⟨(pb t).val * 4096 + ((pi t).val * 512 + y.val), by omega⟩ ⟨(ph t).val * 128 + d.val, by omega⟩ :=
    congrArg (fun a => (ix2 a _ : S8704x2048.Idx)) (Fin.ext (by
      show ((pb t).val * 8 + (pi t).val) * 512 + y.val = (pb t).val * 4096 + ((pi t).val * 512 + y.val)
      omega))
  rw [e]
  refine Eq.trans ?_ (v70_prompt (qkv m c) (bias m c) (over m c) (pb t) ⟨(pi t).val * 512 + y.val, by omega⟩ (ph t) d).symm
  refine Cert.Equation.tile_eq (qkv m c) (bias m c) (pb t) (ph t) (pi t) _ _ _ _ _ _ _
    (fun y d => (blk0 m c t y d).trans ?_) (fun hi y d => (blk1 m c t y d).trans ?_) (fun y d => (blk2 m c t y d).trans ?_)
    (fun hi y d => (blk3 m c t y d).trans ?_) (fun y d => (blk4 m c t y d).trans ?_)
    (fun a => (blk5 m c t a).trans (Cert.Host.V_u m c (ph t) a)) (fun r w => (blk6 m c t r w).trans (Cert.Host.V_band m c r w))
    (fun p hp n d => ?_) (fun e => hb _) y d
  · exact congrArg (qkv m c) (congrArg₂ ix2 (Fin.ext (by
      show ((pb t).val * 8 + (pi t).val) * 512 + y.val = (pb t).val * 4096 + ((pi t).val * 512 + y.val); omega)) (Fin.ext (by
      show (ph t).val * 128 + d.val = 0 * 2048 + (ph t).val * 128 + d.val; omega)))
  · exact congrArg (qkv m c) (congrArg₂ ix2 (Fin.ext (by
      show ((pb t).val * 8 + ((pi t).val - 1)) * 512 + y.val = (pb t).val * 4096 + (((pi t).val - 1) * 512 + y.val); omega)) (Fin.ext (by
      show (16 + (ph t).val) * 128 + d.val = 1 * 2048 + (ph t).val * 128 + d.val; omega)))
  · exact congrArg (qkv m c) (congrArg₂ ix2 (Fin.ext (by
      show ((pb t).val * 8 + (pi t).val) * 512 + y.val = (pb t).val * 4096 + ((pi t).val * 512 + y.val); omega)) (Fin.ext (by
      show (16 + (ph t).val) * 128 + d.val = 1 * 2048 + (ph t).val * 128 + d.val; omega)))
  · exact congrArg (qkv m c) (congrArg₂ ix2 (Fin.ext (by
      show ((pb t).val * 8 + ((pi t).val - 1)) * 512 + y.val = (pb t).val * 4096 + (((pi t).val - 1) * 512 + y.val); omega)) (Fin.ext (by
      show (32 + (ph t).val) * 128 + d.val = 2 * 2048 + (ph t).val * 128 + d.val; omega)))
  · exact congrArg (qkv m c) (congrArg₂ ix2 (Fin.ext (by
      show ((pb t).val * 8 + (pi t).val) * 512 + y.val = (pb t).val * 4096 + ((pi t).val * 512 + y.val); omega)) (Fin.ext (by
      show (32 + (ph t).val) * 128 + d.val = 2 * 2048 + (ph t).val * 128 + d.val; omega)))
  · exact hq ⟨(pb t).val * 4096 + n.val, by omega⟩ ⟨p.val * 2048 + (ph t).val * 128 + d.val, by omega⟩

/-- The attention's result after the run is the reference's, the sample's rows kept. -/
theorem final_out (c : Dev nD) (hq : RealQK m c) (hb : ∀ i, ∃ v : ℝ, bias m c i = v) :
    (dats m 0 c).arrAt 7 cfg0.N = Cert.ReferenceIdeal.Read.val_main_v70 (F := Ideal) (qkv m c) (bias m c) (over m c) := by
  rw [final7 m c _ (block_eq m c hq hb)]
  funext i
  by_cases h : (i 0 : ℕ) / 512 < 16
  · exact if_pos h
  · refine (if_neg h).trans ?_
    have hi0 : (i 0).val < 8704 := (i 0).isLt
    have ei : i = (ix2 ⟨8192 + ((i 0).val - 8192), by omega⟩ (i 1) : S8704x2048.Idx) := funext fun a => Fin.ext (by
      match a with
      | ⟨0, _⟩ => show (i 0).val = 8192 + ((i 0).val - 8192); omega
      | ⟨1, _⟩ => rfl)
    have eA : (dats m 0 c).A 7 = over m c := (A_eq m c 7).trans (Cert.Host.V_out m c)
    rw [eA, ei]
    exact (v70_rest (qkv m c) (bias m c) (over m c) ⟨(i 0).val - 8192, by omega⟩ (i 1)).symm

/-- Every index of a tail array is a batch, a position, a head and a coordinate. -/
theorem tail_idx (i : S1024x2048.Idx) : ∃ (b : Fin 2) (n : Fin 512) (h : Fin 16) (d : Fin 128),
    i = ix2 ⟨b.val * 512 + n.val, by omega⟩ ⟨h.val * 128 + d.val, by omega⟩ := by
  have h0 : (i 0).val < 1024 := (i 0).isLt
  have h1 : (i 1).val < 2048 := (i 1).isLt
  refine ⟨⟨(i 0).val / 512, by omega⟩, ⟨(i 0).val % 512, by omega⟩, ⟨(i 1).val / 128, by omega⟩, ⟨(i 1).val % 128, by omega⟩, ?_⟩
  refine funext fun a => Fin.ext ?_
  match a with
  | ⟨0, _⟩ => show (i 0).val = (i 0).val / 512 * 512 + (i 0).val % 512; omega
  | ⟨1, _⟩ => show (i 1).val = (i 1).val / 128 * 128 + (i 1).val % 128; omega

/-- The keys' cache after the run is the reference's. -/
theorem final_k (c : Dev nD) :
    (dats m 0 c).arrAt 8 cfg0.N = Cert.ReferenceIdeal.Read.val_main_v72 (F := Ideal) (qkv m c) := by
  funext i
  obtain ⟨b, n, h, d, e⟩ := tail_idx i
  rw [e]
  refine (final8 m c b n h d).trans (Eq.trans ?_ (v72_at (qkv m c) b n h d).symm)
  exact congrArg (qkv m c) (congrArg₂ ix2 (Fin.ext (by
      show b.val * 4096 + 3584 + n.val = b.val * 4096 + (3584 + n.val); omega)) (Fin.ext (by
      show (16 + h.val) * 128 + d.val = 1 * 2048 + h.val * 128 + d.val; omega)))

/-- The values' cache after the run is the reference's. -/
theorem final_v (c : Dev nD) :
    (dats m 0 c).arrAt 9 cfg0.N = Cert.ReferenceIdeal.Read.val_main_v74 (F := Ideal) (qkv m c) := by
  funext i
  obtain ⟨b, n, h, d, e⟩ := tail_idx i
  rw [e]
  refine (final9 m c b n h d).trans (Eq.trans ?_ (v74_at (qkv m c) b n h d).symm)
  exact congrArg (qkv m c) (congrArg₂ ix2 (Fin.ext (by
      show b.val * 4096 + 3584 + n.val = b.val * 4096 + (3584 + n.val); omega)) (Fin.ext (by
      show (32 + h.val) * 128 + d.val = 2 * 2048 + h.val * 128 + d.val; omega)))

end Cert.Value

end
-- ==== Proof.Claims.lean ====
/- The claims of the prompt attention: frames, the idealization, and the equality of kernel and reference. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Value
public import Idealize.ShloMosaic.Lib.Quiescent

@[expose] public section

noncomputable section

namespace Cert.Claims

open Idealize.ShloMosaic Idealize.SL.Sem Idealize.ShloMosaic.TcCoe

/-- The attention kernel runs and keeps its arguments. -/
theorem kernel_frame : Cert.quiescent_Kernel (hKernel := Cert.Kernel.Gen.facts) :=
  fun m g _ => Cert.Kernel.Gen.frame m g

/-- The ideal attention kernel runs and keeps its arguments. -/
theorem ideal_frame : Cert.quiescent_KernelIdeal (hKernelIdeal := Cert.KernelIdeal.Gen.facts) :=
  fun m g _ => Cert.KernelIdeal.Gen.frame m g

theorem ideal_frame_pre : Cert.quiescent_KernelIdeal_pre_finite (hKernelIdeal := Cert.KernelIdeal.Gen.facts) (hPre_finite := Cert.Pre.facts) :=
  fun m g _ => Cert.KernelIdeal.Gen.frame m g

/-- The reference runs and keeps its arguments, from any memory. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2.2.2, sem_eq_zero_of_no_sems (by decide) r.2⟩)
    (Cert.ReferenceIdeal.Value.run (F := Ideal) m g)

theorem reference_frame : Cert.quiescent_ReferenceIdeal (hReferenceIdeal := Cert.ReferenceIdeal.Gen.facts) :=
  fun m g _ => reference_run m g

theorem reference_frame_pre : Cert.quiescent_ReferenceIdeal_pre_finite (hReferenceIdeal := Cert.ReferenceIdeal.Gen.facts) (hPre_finite := Cert.Pre.facts) :=
  fun m g _ => reference_run m g

/-- The two constants named are the ones the kernel's words round. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "qscale" .f32 0x3E0293EE#32 (((Real.sqrt 128)⁻¹ * (Real.log 2)⁻¹ : ℝ) : EReal) rfl⟩

/-- Kernel and reference end with the same three results when the queries, the keys and the biases are real. -/
theorem algebraic : Cert.algebraic_KernelIdeal_ReferenceIdeal_pre_finite (hKernelIdeal := Cert.KernelIdeal.Gen.facts)
    (hReferenceIdeal := Cert.ReferenceIdeal.Gen.facts) (hPre_finite := Cert.Pre.facts) := by
  intro m g m' g' hpre hagree
  refine ⟨_, _, _, Cert.KernelIdeal.Value.run_blocks (F := Ideal) m g, ?_⟩
  refine (θ_run Cert.ReferenceIdeal.defs _ _).mono (fun r h c => ?_) (Cert.ReferenceIdeal.Value.run (F := Ideal) m' g')
  obtain ⟨a0, a1, a2⟩ := hagree c
  obtain ⟨h0, h1, h2, hk⟩ := h c
  have hq := Cert.Pre.real_qk _ _ _ (hpre c)
  have hb := Cert.Pre.real_bias _ _ _ (hpre c)
  refine ⟨h0.trans ?_, h1.trans ?_, h2.trans ?_, hk⟩
  · rw [Cert.ReferenceIdeal.Read.val_main_v70_eq, a0, a1, a2]
    exact (Cert.Value.final_out m c hq hb).symm
  · rw [a0]
    exact (Cert.ReferenceIdeal.Read.val_main_v72_eq _).trans (Cert.Value.final_k m c).symm
  · rw [a0]
    exact (Cert.ReferenceIdeal.Read.val_main_v74_eq _).trans (Cert.Value.final_v m c).symm

end Cert.Claims

end
-- ==== Proof.Dense.lean ====
/- What the dense layers share: the normalisation of a row of 2048 entries, read off the vector operations that compute
   it, a product of two matrices at one entry, and a sum taken block by block. -/
module

public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

namespace Cert.Dense

open Idealize.ShloMosaic Idealize.ShloMosaic.ValueIdx

/-- The mean of a row. -/
def mean (z : Fin 2048 → EReal) : EReal := Ideal.div (∑ d, z d) (Ideal.ofBits .f32 0x45000000#32)

/-- A row less its mean, over its deviation, scaled and shifted. -/
def norm (z g b : Fin 2048 → EReal) (d : Fin 2048) : EReal :=
  (z d - mean z) * Ideal.rsqrt (mean (fun e => (z e - mean z) * (z e - mean z)) + Ideal.ofBits .f32 0x3727C5AC#32) * g d + b d

/-- The residual of a row: `α y + f`. -/
def resid (y f : Fin 2048 → EReal) (d : Fin 2048) : EReal := Ideal.ofBits .f32 0x3FD744FD#32 * y d + f d

/-- A hidden entry of the feed-forward part. -/
def hid (y : Fin 2048 → EReal) (w : Fin 2048 → EReal) : EReal := max (∑ e, y e * w e) 0

/-- The mean as a tile of `R` rows computes it. -/
theorem mean_apply {R : Nat} (z : FVec Ideal ⟨2, ![R, 2048]⟩ .f32)
    (hr : (⟨2, ![R, 2048]⟩ : Shape).Reduces [1] ⟨1, ![R]⟩) (hc : (⟨1, ![R]⟩ : Shape).ShapeCasts ⟨2, ![R, 1]⟩) (h1) (h2) (r : Fin R) :
    divf (shapeCast ⟨2, ![R, 1]⟩ (multiReduction .add [1] ⟨1, ![R]⟩ z 0x00000000#32 hr h1 h2) hc)
      (broadcast ⟨2, ![R, 1]⟩ (Scalar.ofBits (F := Ideal) .f32 0x45000000#32)) (ix2 r 0) = mean fun d => z (ix2 r d) := by
  rw [divf_apply, shapeCast_apply _ _ _ (ix1 r) (by rw [Shape.rowMajor_val_one, Shape.rowMajor_val_two]; show r.val = r.val * 1 + 0; omega), broadcast_apply]
  show Ideal.div (multiReduction .add [1] ⟨1, ![R]⟩ z 0x00000000#32 hr h1 h2 (ix1 r)) _ = _
  rw [show multiReduction .add [1] ⟨1, ![R]⟩ z 0x00000000#32 hr h1 h2 (ix1 r) = _ from
    Ideal.multiReduction_add_single z _ hr h1 h2 (ix1 r)]
  unfold mean
  refine congrArg₂ Ideal.div (Finset.sum_congr rfl fun d _ => congrArg z ?_) rfl
  exact funext fun a => Fin.ext (by match a with | ⟨0, _⟩ => rfl | ⟨1, _⟩ => rfl)

/-- A column spread over the 2048 entries of its rows. -/
theorem col_apply {R : Nat} {α : Type} (z : (⟨2, ![R, 1]⟩ : Shape).Idx → α)
    (h : (⟨2, ![R, 1]⟩ : Shape).Broadcasts ⟨2, ![R, 2048]⟩) (r : Fin R) (d : Fin 2048) :
    broadcastTo ⟨2, ![R, 2048]⟩ z h (ix2 r d) = z (ix2 r 0) := by
  refine broadcastTo_apply _ _ _ (ix2 r 0) fun a => ?_
  match a with
  | ⟨0, _⟩ =>
    show r.val = if R = 1 then 0 else r.val
    split <;> omega
  | ⟨1, _⟩ => rfl

/-- A row spread over `R` rows. -/
theorem row_apply {R : Nat} {α : Type} (z : (⟨2, ![1, 2048]⟩ : Shape).Idx → α)
    (h : (⟨2, ![1, 2048]⟩ : Shape).Broadcasts ⟨2, ![R, 2048]⟩) (r : Fin R) (d : Fin 2048) :
    broadcastTo ⟨2, ![R, 2048]⟩ z h (ix2 r d) = z (ix2 0 d) := by
  refine broadcastTo_apply _ _ _ (ix2 0 d) fun a => ?_
  match a with
  | ⟨0, _⟩ => rfl
  | ⟨1, _⟩ => rfl

/-- The normalisation as a tile of `R` rows computes it. -/
theorem norm_apply {R : Nat} (z : FVec Ideal ⟨2, ![R, 2048]⟩ .f32) (g b : FVec Ideal ⟨2, ![1, 2048]⟩ .f32)
    (hr : (⟨2, ![R, 2048]⟩ : Shape).Reduces [1] ⟨1, ![R]⟩) (hc : (⟨1, ![R]⟩ : Shape).ShapeCasts ⟨2, ![R, 1]⟩) (h1) (h2)
    (hb : (⟨2, ![R, 1]⟩ : Shape).Broadcasts ⟨2, ![R, 2048]⟩) (hw : (⟨2, ![1, 2048]⟩ : Shape).Broadcasts ⟨2, ![R, 2048]⟩)
    (m : FVec Ideal ⟨2, ![R, 1]⟩ .f32)
    (hm : m = divf (shapeCast ⟨2, ![R, 1]⟩ (multiReduction .add [1] ⟨1, ![R]⟩ z 0x00000000#32 hr h1 h2) hc)
      (broadcast ⟨2, ![R, 1]⟩ (Scalar.ofBits (F := Ideal) .f32 0x45000000#32)))
    (x : FVec Ideal ⟨2, ![R, 2048]⟩ .f32) (hx : x = subf z (broadcastTo ⟨2, ![R, 2048]⟩ m hb)) (r : Fin R) (d : Fin 2048) :
    addf (mulf (mulf x (broadcastTo ⟨2, ![R, 2048]⟩ (rsqrt (addf
        (divf (shapeCast ⟨2, ![R, 1]⟩ (multiReduction .add [1] ⟨1, ![R]⟩ (mulf x x) 0x00000000#32 hr h1 h2) hc)
          (broadcast ⟨2, ![R, 1]⟩ (Scalar.ofBits (F := Ideal) .f32 0x45000000#32)))
        (broadcast ⟨2, ![R, 1]⟩ (Scalar.ofBits (F := Ideal) .f32 0x3727C5AC#32)))) hb))
        (broadcastTo ⟨2, ![R, 2048]⟩ g hw)) (broadcastTo ⟨2, ![R, 2048]⟩ b hw) (ix2 r d)
      = norm (fun e => z (ix2 r e)) (fun e => g (ix2 0 e)) (fun e => b (ix2 0 e)) d := by
  have ex : ∀ e, x (ix2 r e) = z (ix2 r e) - mean fun e => z (ix2 r e) := by
    intro e
    rw [hx, subf_apply, col_apply, hm, mean_apply]
  have er : ∀ v : FVec Ideal ⟨2, ![R, 1]⟩ .f32, rsqrt v (ix2 r 0) = Ideal.rsqrt (v (ix2 r 0)) := fun _ => rfl
  rw [addf_apply, mulf_apply, mulf_apply, row_apply, row_apply, col_apply, ex, er, addf_apply, mean_apply, broadcast_apply]
  unfold norm
  simp only [mulf_apply, ex]
  rfl

/-- A product of two matrices into a zero result, at an entry. -/
theorem dot_apply {M K N : Nat} (φ ψ : FTy) (x : FVec Ideal ⟨2, ![M, K]⟩ φ) (w : FVec Ideal ⟨2, ![K, N]⟩ ψ) (r : Fin M) (c : Fin N) :
    matmul (DotDims.plain M K N) none x w (constant ⟨2, ![M, N]⟩ .f32 0x00000000#32) (ix2 r c)
      = ∑ k : Fin K, x (ix2 r k) * w (ix2 k c) := by
  unfold matmul
  rw [Ideal.matmul_plain_apply, constant_apply, Ideal.ofBits_zero_f32, zero_add]

/-- A sum of `n` blocks of `b` terms is the sum of the terms. -/
theorem sum_blocks (b : Nat) (f : Nat → EReal) (n : Nat) :
    ∑ s ∈ Finset.range n, ∑ j ∈ Finset.range b, f (b * s + j) = ∑ k ∈ Finset.range (b * n), f k := by
  induction n with
  | zero => simp
  | succ n ih => rw [Finset.sum_range_succ, ih, Nat.mul_succ, Finset.sum_range_add]

/-- A function of `Fin n` as one of all numbers. -/
def ext {n : Nat} (f : Fin n → EReal) (k : Nat) : EReal := if h : k < n then f ⟨k, h⟩ else 0

theorem ext_of_lt {n : Nat} (f : Fin n → EReal) {k : Nat} (h : k < n) : ext f k = f ⟨k, h⟩ := dif_pos h

theorem sum_ext {n : Nat} (f : Fin n → EReal) : ∑ k ∈ Finset.range n, ext f k = ∑ k : Fin n, f k := by
  rw [Finset.sum_range]
  exact Finset.sum_congr rfl fun k _ => ext_of_lt f k.isLt

end Cert.Dense
end
end
-- ==== Proof.Rows.lean ====
/- A buffer that a loop fills from the top, some rows at each trip. -/
module

public import proofs.«01_k».proof.Proof.Dense
public import Idealize.ShloMosaic.Lib.Pipeline.FrameBody
public import Idealize.ShloMosaic.Lib.Pipeline.CanonAppend

@[expose] public section

noncomputable section

namespace Cert.Rows

open Idealize.ShloMosaic Idealize.ShloMosaic.ValueIdx

variable {M N : Nat} {e : EltTy}

/-- The stores of the first `k` trips: each agrees with `G`, together they cover the first `b k` rows and no other. -/
structure Filled (b : Nat) (G : (⟨2, ![M, N]⟩ : Shape).Idx → Elt Ideal e) (k : Nat) (L : List (View.Piece (Elt Ideal) ⟨2, ![M, N]⟩ e)) : Prop where
  agree : ∀ p ∈ L, ∀ x, p.2 x = G (p.1.emb x)
  above : ∀ p ∈ L, ∀ y ∈ p.1.set, (y 0).val < b * k
  cover : ∀ y : (⟨2, ![M, N]⟩ : Shape).Idx, (y 0).val < b * k → ∃ p ∈ L, y ∈ p.1.set

theorem nil (b : Nat) (G : (⟨2, ![M, N]⟩ : Shape).Idx → Elt Ideal e) : Filled b G 0 [] :=
  ⟨fun _ h => absurd h List.not_mem_nil, fun _ h => absurd h List.not_mem_nil, fun y h => absurd h (by omega)⟩

/-- One more trip. -/
theorem Filled.cons {b : Nat} {G : (⟨2, ![M, N]⟩ : Shape).Idx → Elt Ideal e} {k : Nat} {L : List (View.Piece (Elt Ideal) ⟨2, ![M, N]⟩ e)}
    (h : Filled b G k L) (off : Fin 2 → Nat) (ho : off = ![b * k, 0]) (inb) (w)
    (hw : ∀ x, w x = G ((Rect.unit (s := ⟨2, ![M, N]⟩) off ![b, N] inb).emb x)) :
    Filled b G (k + 1) (⟨Rect.unit (s := ⟨2, ![M, N]⟩) off ![b, N] inb, w⟩ :: L) := by
  subst ho
  have e0 : b * (k + 1) = b * k + b := Nat.mul_succ b k
  refine ⟨?_, ?_, ?_⟩
  · intro p hp
    rcases List.mem_cons.mp hp with rfl | hp
    · exact hw
    · exact h.agree p hp
  · intro p hp y hy
    rcases List.mem_cons.mp hp with rfl | hp
    · rw [← Rect.map_emb_univ] at hy
      obtain ⟨x, -, rfl⟩ := Finset.mem_map.mp hy
      have hx : (x 0).val < b := (x 0).isLt
      show b * k + 1 * (x 0).val < _
      omega
    · have := h.above p hp y hy
      omega
  · intro y hy
    by_cases hk : (y 0).val < b * k
    · obtain ⟨p, hp, hm⟩ := h.cover y hk
      exact ⟨p, List.mem_cons_of_mem _ hp, hm⟩
    · refine ⟨_, List.mem_cons_self, ?_⟩
      rw [← Rect.map_emb_univ]
      have hl : (y 0).val - b * k < b := by omega
      refine Finset.mem_map.mpr ⟨ix2 (⟨(y 0).val - b * k, hl⟩ : Fin b) (⟨(y 1).val, (y 1).isLt⟩ : Fin N), Finset.mem_univ _, ?_⟩
      refine funext fun a => Fin.ext ?_
      match a with
      | ⟨0, _⟩ =>
        show b * k + 1 * ((y 0).val - b * k) = (y 0).val
        omega
      | ⟨1, _⟩ =>
        show 0 + 1 * (y 1).val = (y 1).val
        omega

/-- A row that the trips have not come to is still as it was before them. -/
theorem Filled.canon_below {b : Nat} {G : (⟨2, ![M, N]⟩ : Shape).Idx → Elt Ideal e} {k : Nat} {L : List (View.Piece (Elt Ideal) ⟨2, ![M, N]⟩ e)}
    (h : Filled b G k L) (L' : List (View.Piece (Elt Ideal) ⟨2, ![M, N]⟩ e)) (y : (⟨2, ![M, N]⟩ : Shape).Idx) (hy : b * k ≤ (y 0).val) :
    View.canon (L ++ L') y = View.canon L' y := by
  have hn : ∀ p ∈ L, y ∉ p.1.set := fun p hp hm => absurd (h.above p hp y hm) (by omega)
  clear h
  induction L with
  | nil => rfl
  | cons p L ih =>
    exact (View.canon_cons_of_not_mem p (L ++ L') (hn p List.mem_cons_self)).trans (ih fun q hq => hn q (List.mem_cons_of_mem _ hq))

/-- Once the trips have come to every row, the buffer reads as `G`. -/
theorem Filled.canon {b : Nat} {G : (⟨2, ![M, N]⟩ : Shape).Idx → Elt Ideal e} {k : Nat} {L : List (View.Piece (Elt Ideal) ⟨2, ![M, N]⟩ e)}
    (h : Filled b G k L) (hk : M ≤ b * k) (L' : List (View.Piece (Elt Ideal) ⟨2, ![M, N]⟩ e)) (y) :
    View.canon (L ++ L') y = G y :=
  View.canon_append_of_pieces G L' L h.agree y (h.cover y (Nat.lt_of_lt_of_le (y 0).isLt hk))

end Cert.Rows
end
end
-- ==== Proof.MlpTile.lean ====
/- The blocks of the MLP kernel as formulas: a step of the sum over the hidden columns, and the normalisation of the
   finished sum, 272 rows at a time. -/
module

public import proofs.«01_k».proof.Proof.Gen.MlpIdeal.Skeleton
public import proofs.«01_k».proof.Proof.Rows

@[expose] public section

noncomputable section

namespace Cert.Mlp

open Idealize.ShloMosaic Idealize.ShloMosaic.ValueIdx Idealize.ShloMosaic.TcCoe Idealize.SL.Sem
open Cert.MlpIdeal Cert.MlpIdeal.Gen Cert.MlpIdeal.Facts Cert.Dense

theorem pay1_apply (y : FVec Ideal S1088x2048 .f32) (r : Fin 1088) (d : Fin 2048) : k0_pay1 (F := Ideal) y (ix2 r d) = y (ix2 r d) := by
  unfold k0_pay1
  rw [shapeCast_self, truncf_apply]

theorem pay3_apply (y : FVec Ideal S1088x2048 .bf16) (w1 : FVec Ideal S1x2048x512 .f32) (acc : FVec Ideal S1088x2048 .f32)
    (w2 : FVec Ideal S1x512x2048 .f32) (r : Fin 1088) (d : Fin 2048) :
    k0_pay3 (F := Ideal) y w1 acc w2 (ix2 r d) = acc (ix2 r d) + ∑ j : Fin 512,
      hid (fun e => y (ix2 r e)) (fun e => w1 (ix3 0 e j)) * hid (fun e => y (ix2 r e)) (fun e => w1 (ix3 0 e j)) * w2 (ix3 0 j d) := by
  unfold k0_pay3
  have e1 : dot_S1088x2048_S2048x512_S1088x512_1_0_0_1_n_n = DotDims.plain 1088 2048 512 := rfl
  have e2 : dot_S1088x512_S512x2048_S1088x2048_1_0_0_1_n_n = DotDims.plain 1088 512 2048 := rfl
  rw [e1, e2, addf_apply, shapeCast_self]
  refine congrArg (acc (ix2 r d) + ·) ?_
  refine (dot_apply _ _ _ _ _ _).trans (Finset.sum_congr rfl fun j _ => ?_)
  have eh : ∀ u : FVec Ideal S1088x512 .f32, truncf .bf16 (mulf (maximumf u (broadcast S1088x512 (Scalar.ofBits (F := Ideal) .f32 0x00000000#32)))
      (maximumf u (broadcast S1088x512 (Scalar.ofBits (F := Ideal) .f32 0x00000000#32)))) bitsLt_bf16_f32 (ix2 r j) = max (u (ix2 r j)) 0 * max (u (ix2 r j)) 0 := by
    intro u
    rw [truncf_apply, mulf_apply, maximumf_apply, broadcast_apply]
    show max _ (Ideal.ofBits .f32 0x00000000#32) * max _ (Ideal.ofBits .f32 0x00000000#32) = _
    rw [Ideal.ofBits_zero_f32]
  refine congrArg₂ (· * ·) ((eh _).trans ?_) ?_
  · have ed : ∀ v : FVec Ideal S2048x512 .bf16, matmul (DotDims.plain 1088 2048 512) none y v (constant S1088x512 .f32 0x00000000#32) (ix2 r j) = ∑ e, y (ix2 r e) * v (ix2 e j) :=
      fun v => dot_apply _ _ _ _ _ _
    unfold hid
    rw [ed]
    have ew : ∀ e : Fin 2048, truncf (F := Ideal) .bf16 (shapeCast S2048x512 w1 shapeCasts_S1x2048x512_S2048x512) bitsLt_bf16_f32 (ix2 e j) = w1 (ix3 0 e j) := by
      intro e
      rw [truncf_apply]
      refine shapeCast_apply _ _ _ (ix3 0 e j) ?_
      rw [Shape.rowMajor_val_two, Shape.rowMajor_val_three]
      show (0 * 2048 + e.val) * 512 + j.val = e.val * 512 + j.val
      omega
    simp only [ew]
  · rw [truncf_apply]
    refine shapeCast_apply _ _ _ (ix3 0 j d) ?_
    rw [Shape.rowMajor_val_two, Shape.rowMajor_val_three]
    show (0 * 512 + j.val) * 2048 + d.val = j.val * 2048 + d.val
    omega

/-- The payload of the first 272 rows. -/
theorem pay6_apply (y f : FVec Ideal S272x2048 .f32) (g b : FVec Ideal S1x2048 .f32) (r : Fin 272) (d : Fin 2048) :
    k0_pay6 (F := Ideal) y f g b (ix2 r d)
      = norm (resid (fun e => y (ix2 r e)) fun e => f (ix2 r e)) (fun e => g (ix2 0 e)) (fun e => b (ix2 0 e)) d := by
  unfold k0_pay6
  dsimp only
  simp only [shapeCast_self]
  exact norm_apply _ g b _ _ _ _ _ _ _ rfl _ rfl r d

/-- The other payloads are the same function. -/
theorem pay8_eq (y f : FVec Ideal S272x2048 .f32) (g b : FVec Ideal S1x2048 .f32) : k0_pay8 (F := Ideal) y f g b = k0_pay6 (F := Ideal) y f g b := rfl
theorem pay10_eq (y f : FVec Ideal S272x2048 .f32) (g b : FVec Ideal S1x2048 .f32) : k0_pay10 (F := Ideal) y f g b = k0_pay6 (F := Ideal) y f g b := rfl
theorem pay4_eq (y f : FVec Ideal S272x2048 .f32) (g b : FVec Ideal S1x2048 .f32) : k0_pay4 (F := Ideal) y (k0_pay12 (F := Ideal)) f g b = k0_pay6 (F := Ideal) y f g b := rfl
theorem pay7_eq (y f : FVec Ideal S272x2048 .f32) (g b : FVec Ideal S1x2048 .f32) : k0_pay7 (F := Ideal) y f g b = k0_pay6 (F := Ideal) y f g b := rfl
theorem pay9_eq (y f : FVec Ideal S272x2048 .f32) (g b : FVec Ideal S1x2048 .f32) : k0_pay9 (F := Ideal) y f g b = k0_pay6 (F := Ideal) y f g b := rfl
theorem pay11_eq (y f : FVec Ideal S272x2048 .f32) (g b : FVec Ideal S1x2048 .f32) : k0_pay11 (F := Ideal) y f g b = k0_pay6 (F := Ideal) y f g b := rfl
theorem pay5_eq (y f : FVec Ideal S272x2048 .f32) (g b : FVec Ideal S1x2048 .f32) : k0_pay5 (F := Ideal) y (k0_pay12 (F := Ideal)) f g b = k0_pay6 (F := Ideal) y f g b := rfl

/-- The rows once they are normalised. -/
def rows (y f : FVec Ideal S1088x2048 .f32) (g b : FVec Ideal S1x2048 .f32) (x : S1088x2048.Idx) : EReal :=
  norm (resid (fun e => y (ix2 (x 0) e)) fun e => f (ix2 (x 0) e)) (fun e => g (ix2 0 e)) (fun e => b (ix2 0 e)) (x 1)

theorem hz2 : (![0, 0] : Fin 2 → Nat) = fun _ => 0 := by decide

/-- A payload in terms of the sum that stood in the buffer before the rows were normalised. -/
theorem piece_apply (x0 z : Vec Ideal S1088x2048 .f32) (x3 x4 : Vec Ideal S1x2048 .f32) (k : Nat) (L : List (View.Piece (Elt Ideal) S1088x2048 .f32))
    (h : Rows.Filled (e := .f32) 272 (rows x0 z x3 x4) k L) (off : Fin 2 → Nat) (ho : off = ![272 * k, 0]) (inb) (inb0) (x : S272x2048.Idx) :
    k0_pay6 (F := Ideal) (View.ld (Val := Elt Ideal) (e' := .f32) x0 (Rect.unit (s := S1088x2048) off ![272, 2048] inb))
        (fun j => View.canon (Val := Elt Ideal) (L ++ [⟨Rect.unit (s := S1088x2048) ![0, 0] S1088x2048.size inb0, z⟩]) ((Rect.unit (s := S1088x2048) off ![272, 2048] inb).toLoadRect.idx j)) x3 x4 x
      = rows x0 z x3 x4 ((Rect.unit (s := S1088x2048) off ![272, 2048] inb).emb x) := by
  subst ho
  obtain ⟨r, d, rfl⟩ : ∃ r d, x = ix2 r d := ⟨x 0, x 1, eq_ix2 x⟩
  rw [pay6_apply]
  unfold rows
  have h1 : ((Rect.unit (s := S1088x2048) ![272 * k, 0] ![272, 2048] inb).emb (ix2 r d)) 1 = d := Fin.ext (by
    show 0 + 1 * d.val = d.val
    omega)
  have hx : ∀ e : Fin 2048, (Rect.unit (s := S1088x2048) ![272 * k, 0] ![272, 2048] inb).emb (ix2 r e)
      = ix2 (((Rect.unit (s := S1088x2048) ![272 * k, 0] ![272, 2048] inb).emb (ix2 r d)) 0) e := by
    intro e
    refine funext fun a => Fin.ext ?_
    match a with
    | ⟨0, _⟩ => rfl
    | ⟨1, _⟩ =>
      show 0 + 1 * e.val = e.val
      omega
  rw [h1]
  refine congrArg₂ (fun u v : Fin 2048 → EReal => norm (resid u v) (fun e => x3 (ix2 0 e)) (fun e => x4 (ix2 0 e)) d)
    (funext fun e => congrArg x0 (hx e)) (funext fun e => ?_)
  refine (h.canon_below _ _ ?_).trans ?_
  · show 272 * k ≤ 272 * k + 1 * r.val
    omega
  · rw [View.canon_unit_zero (S := S1088x2048) hz2 inb0 z]
    exact congrArg z (hx e)

/-- The store of 272 rows more. -/
def piece (e : EltTy) (w : S272x2048.Idx → Elt Ideal e) (o : Nat)
    (inb : ∀ a, (![o, 0] : Fin 2 → Nat) a + (![272, 2048] : Fin 2 → Nat) a ≤ S1088x2048.size a) : View.Piece (Elt Ideal) S1088x2048 e :=
  ⟨Rect.unit (s := S1088x2048) ![o, 0] ![272, 2048] inb, w⟩

/-- What the rows from `o` on become, once the stores `L` were made over the sum `z`. -/
def next (x0 z : Vec Ideal S1088x2048 .f32) (x3 x4 : Vec Ideal S1x2048 .f32) (L : List (View.Piece (Elt Ideal) S1088x2048 .f32)) (o : Nat)
    (inb : ∀ a, (![o, 0] : Fin 2 → Nat) a + (![272, 2048] : Fin 2 → Nat) a ≤ S1088x2048.size a)
    (inb0 : ∀ a, (![0, 0] : Fin 2 → Nat) a + S1088x2048.size a ≤ S1088x2048.size a) : S272x2048.Idx → EReal :=
  k0_pay6 (F := Ideal) (View.ld (Val := Elt Ideal) (e' := .f32) x0 (Rect.unit (s := S1088x2048) ![o, 0] ![272, 2048] inb))
    (fun j => View.canon (Val := Elt Ideal) (L ++ [⟨Rect.unit (s := S1088x2048) ![0, 0] S1088x2048.size inb0, z⟩]) ((Rect.unit (s := S1088x2048) ![o, 0] ![272, 2048] inb).toLoadRect.idx j)) x3 x4

theorem step (e : EltTy) (he : Elt Ideal e = EReal) (x0 z : Vec Ideal S1088x2048 .f32) (x3 x4 : Vec Ideal S1x2048 .f32) {k : Nat} {L : List (View.Piece (Elt Ideal) S1088x2048 .f32)}
    {L' : List (View.Piece (Elt Ideal) S1088x2048 e)} (h : Rows.Filled (e := .f32) 272 (rows x0 z x3 x4) k L)
    (h' : Rows.Filled 272 (fun y => cast he.symm (rows x0 z x3 x4 y)) k L') (o : Nat) (ho : o = 272 * k) (inb) (inb0) :
    Rows.Filled 272 (fun y => cast he.symm (rows x0 z x3 x4 y)) (k + 1) (piece e (fun y => cast he.symm (next x0 z x3 x4 L o inb inb0 y)) o inb :: L') := by
  subst ho
  exact h'.cons _ rfl inb _ fun x => congrArg (cast he.symm) (piece_apply x0 z x3 x4 k L h _ rfl inb inb0 x)

end Cert.Mlp
end
end
-- ==== Proof.MlpBlock.lean ====
/- What one grid point of the MLP kernel leaves in its output blocks and in the buffer it carries, as a function of its
   input blocks and of what the point before left. -/
module

public import proofs.«01_k».proof.Proof.Gen.MlpIdeal.Value
public import proofs.«01_k».proof.Proof.MlpTile

@[expose] public section

noncomputable section

namespace Cert.Mlp

open Idealize.ShloMosaic Idealize.ShloMosaic.ValueIdx Idealize.ShloMosaic.TcCoe Idealize.SL.Sem
open Cert.MlpIdeal Cert.MlpIdeal.Gen Cert.MlpIdeal.Facts Cert.Dense

theorem hz3 : (![0, 0, 0] : Fin 3 → Nat) = fun _ => 0 := funext fun a => by fin_cases a <;> rfl

theorem pay1_eq (y : FVec Ideal S1088x2048 .f32) : k0_pay1 (F := Ideal) y = y := funext fun x => by
  rw [eq_ix2 x]
  exact pay1_apply y _ _

/-- A whole block that is written and read back. -/
theorem whole_back {e : EltTy} (z : S1088x2048.Idx → Elt Ideal e) (inb) :
    (fun j => View.canon (Val := Elt Ideal) [⟨Rect.unit (s := S1088x2048) ![0, 0] ![1088, 2048] inb, z⟩] ((Rect.unit (s := S1088x2048) ![0, 0] ![1088, 2048] inb).toLoadRect.idx j)) = z := by
  have h : View.canon (Val := Elt Ideal) [⟨Rect.unit (s := S1088x2048) ![0, 0] ![1088, 2048] inb, z⟩] = z := View.canon_unit_zero (S := S1088x2048) hz2 inb z
  rw [h]
  exact View.ld_unit_zero (S := S1088x2048) hz2 inb z

variable (c : Dev nD) (i : grid0.Coords) (arg2 : Memref sig .tc .vmem S1088x2048 .f32) (harg2 : arg2.IsWhole)
  (arg3 : Memref sig .tc .vmem S1x2048x512 .f32) (harg3 : arg3.IsWhole) (arg4 : Memref sig .tc .vmem S1x512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .vmem S1088x2048 .f32) (harg7 : arg7.IsWhole) (arg8 : Memref sig .tc .vmem S1088x2048 .bf16) (harg8 : arg8.IsWhole)
  (arg9 : Memref sig .tc .vmem S1088x2048 .bf16) (harg9 : arg9.IsWhole)
  (x0 : Vec Ideal S1088x2048 .f32) (x1 : Vec Ideal S1x2048x512 .f32) (x2 : Vec Ideal S1x512x2048 .f32) (x3 : Vec Ideal S1x2048 .f32) (x4 : Vec Ideal S1x2048 .f32)
  (xo5 : Vec Ideal S1088x2048 .f32) (xs0 : Vec Ideal S1088x2048 .bf16)

/-- The first point of a row of blocks keeps the activations. -/
theorem sout_A (hc0 : cond0_0 i) (hc1 : ¬cond0_1 i) :
    sout0_A_0 (F := Ideal) c i arg2 harg2 arg3 harg3 arg4 harg4 arg5 harg5 arg6 harg6 arg7 harg7 arg8 harg8 arg9 harg9 hc0 hc1 x0 x1 x2 x3 x4 = x0 := by
  unfold sout0_A_0
  rw [View.read_writes_junk_eq_canon]
  unfold kernelRun0_A
  dsimp only
  sl_unfold_words
  simp only [View.readAt_eq_ld, harg2.read_unread, View.ld_unit_zero (S := S1088x2048) hz2, pay1_eq]
  exact View.canon_unit_zero (S := S1088x2048) hz2 _ _

/-- It starts the sum from zero. -/
theorem out_A (hc0 : cond0_0 i) (hc1 : ¬cond0_1 i) :
    out0_A_5 (F := Ideal) c i arg2 harg2 arg3 harg3 arg4 harg4 arg5 harg5 arg6 harg6 arg7 harg7 arg8 harg8 arg9 harg9 hc0 hc1 x0 x1 x2 x3 x4
      = k0_pay3 (F := Ideal) x0 x1 (k0_pay2 (F := Ideal)) x2 := by
  unfold out0_A_5
  rw [View.read_writes_junk_eq_canon]
  unfold kernelRun0_A
  dsimp only
  sl_unfold_words
  simp only [View.readCov_eq_canon', View.readAt_eq_ld, harg2.read_unread, harg3.read_unread, harg4.read_unread, View.ld_unit_zero (S := S1088x2048) hz2,
    View.ld_unit_zero (S := S1x2048x512) hz3, View.ld_unit_zero (S := S1x512x2048) hz3, pay1_eq]
  rw [View.canon_cons_unit_zero (S := S1088x2048) (e := .f32) hz2]
  exact congrArg₂ (fun u v => k0_pay3 (F := Ideal) u x1 v x2) (whole_back (e := .bf16) x0 _) (whole_back (e := .f32) _ _)

/-- The next points add to what is there. -/
theorem out_B (hc0 : ¬cond0_0 i) (hc1 : ¬cond0_1 i) :
    out0_B_5 (F := Ideal) c i arg2 harg2 arg3 harg3 arg4 harg4 arg5 harg5 arg6 harg6 arg7 harg7 arg8 harg8 arg9 harg9 hc0 hc1 x0 x1 x2 x3 x4 xo5 xs0
      = k0_pay3 (F := Ideal) xs0 x1 xo5 x2 := by
  unfold out0_B_5
  rw [View.read_writes_junk_eq_canon]
  unfold kernelRun0_B
  dsimp only
  sl_unfold_words
  simp only [View.readAt_eq_ld, harg3.read_unread, harg4.read_unread, harg7.read_unread, harg9.read_unread, View.ld_unit_zero (S := S1088x2048) hz2,
    View.ld_unit_zero (S := S1x2048x512) hz3, View.ld_unit_zero (S := S1x512x2048) hz3]
  exact View.canon_unit_zero (S := S1088x2048) hz2 _ _

/-- The last point of a row of blocks adds its part and normalises the rows. -/
theorem out_C (hc0 : ¬cond0_0 i) (hc1 : cond0_1 i) :
    out0_C_5 (F := Ideal) c i arg2 harg2 arg3 harg3 arg4 harg4 arg5 harg5 arg6 harg6 arg7 harg7 arg8 harg8 arg9 harg9 hc0 hc1 x0 x1 x2 x3 x4 xo5 xs0
      = rows x0 (k0_pay3 (F := Ideal) xs0 x1 xo5 x2) x3 x4 := by
  unfold out0_C_5
  rw [View.read_writes_junk_eq_canon]
  unfold kernelRun0_C
  dsimp only
  sl_unfold_words
  simp only [View.readCov_eq_canon', View.readAt_eq_ld, harg2.read_unread, harg3.read_unread, harg4.read_unread, harg5.read_unread, harg6.read_unread, harg7.read_unread, harg9.read_unread, View.ld_unit_zero (S := S1088x2048) hz2,
    View.ld_unit_zero (S := S1x2048x512) hz3, View.ld_unit_zero (S := S1x512x2048) hz3, View.ld_unit_zero (S := S1x2048) hz2]
  simp only [pay4_eq, pay8_eq, pay10_eq]
  have inb0 : ∀ a, (![0, 0] : Fin 2 → Nat) a + S1088x2048.size a ≤ S1088x2048.size a := by decide
  have a1 := step .f32 rfl x0 (k0_pay3 (F := Ideal) xs0 x1 xo5 x2) x3 x4 (Rows.nil _ _) (Rows.nil _ _) 0 rfl (by decide) inb0
  have a2 := step .f32 rfl x0 (k0_pay3 (F := Ideal) xs0 x1 xo5 x2) x3 x4 a1 a1 272 rfl (by decide) inb0
  have a3 := step .f32 rfl x0 (k0_pay3 (F := Ideal) xs0 x1 xo5 x2) x3 x4 a2 a2 544 rfl (by decide) inb0
  have a4 := step .f32 rfl x0 (k0_pay3 (F := Ideal) xs0 x1 xo5 x2) x3 x4 a3 a3 816 rfl (by decide) inb0
  exact funext fun y => a4.canon (by decide) [⟨Rect.unit (s := S1088x2048) ![0, 0] S1088x2048.size inb0, k0_pay3 (F := Ideal) xs0 x1 xo5 x2⟩] y

/-- The second result holds the same rows in the other format. -/
theorem out_C' (hc0 : ¬cond0_0 i) (hc1 : cond0_1 i) :
    out0_C_6 (F := Ideal) c i arg2 harg2 arg3 harg3 arg4 harg4 arg5 harg5 arg6 harg6 arg7 harg7 arg8 harg8 arg9 harg9 hc0 hc1 x0 x1 x2 x3 x4 xo5 xs0
      = rows x0 (k0_pay3 (F := Ideal) xs0 x1 xo5 x2) x3 x4 := by
  unfold out0_C_6
  rw [View.read_writes_junk_eq_canon]
  unfold kernelRun0_C
  dsimp only
  sl_unfold_words
  simp only [View.readCov_eq_canon', View.readAt_eq_ld, harg2.read_unread, harg3.read_unread, harg4.read_unread, harg5.read_unread, harg6.read_unread, harg7.read_unread, harg9.read_unread, View.ld_unit_zero (S := S1088x2048) hz2,
    View.ld_unit_zero (S := S1x2048x512) hz3, View.ld_unit_zero (S := S1x512x2048) hz3, View.ld_unit_zero (S := S1x2048) hz2]
  simp only [pay4_eq, pay8_eq, pay10_eq, pay5_eq, pay7_eq, pay9_eq, pay11_eq]
  have inb0 : ∀ a, (![0, 0] : Fin 2 → Nat) a + S1088x2048.size a ≤ S1088x2048.size a := by decide
  have a1 := step .f32 rfl x0 (k0_pay3 (F := Ideal) xs0 x1 xo5 x2) x3 x4 (Rows.nil _ _) (Rows.nil _ _) 0 rfl (by decide) inb0
  have a2 := step .f32 rfl x0 (k0_pay3 (F := Ideal) xs0 x1 xo5 x2) x3 x4 a1 a1 272 rfl (by decide) inb0
  have a3 := step .f32 rfl x0 (k0_pay3 (F := Ideal) xs0 x1 xo5 x2) x3 x4 a2 a2 544 rfl (by decide) inb0
  have b1 := step .bf16 rfl x0 (k0_pay3 (F := Ideal) xs0 x1 xo5 x2) x3 x4 (Rows.nil _ _) (Rows.nil _ _) 0 rfl (by decide) inb0
  have b2 := step .bf16 rfl x0 (k0_pay3 (F := Ideal) xs0 x1 xo5 x2) x3 x4 a1 b1 272 rfl (by decide) inb0
  have b3 := step .bf16 rfl x0 (k0_pay3 (F := Ideal) xs0 x1 xo5 x2) x3 x4 a2 b2 544 rfl (by decide) inb0
  have b4 := step .bf16 rfl x0 (k0_pay3 (F := Ideal) xs0 x1 xo5 x2) x3 x4 a3 b3 816 rfl (by decide) inb0
  refine funext fun y => Eq.trans ?_ (b4.canon (by decide) [] y)
  rfl

end Cert.Mlp
end
end
-- ==== Proof.MlpRef.lean ====
/- The reference of the MLP at one entry. -/
module

public import proofs.«01_k».proof.Proof.Gen.MlpReferenceIdeal.Read
public import proofs.«01_k».proof.Proof.Dense

@[expose] public section

noncomputable section

namespace Cert.Mlp

open Idealize.ShloMosaic Idealize.ShloMosaic.ValueIdx Idealize.ShloMosaic.TcCoe Idealize.SL.Sem
open Cert.MlpReferenceIdeal Cert.MlpReferenceIdeal.Read Cert.Dense

/-- The term of hidden column `j` in the feed-forward sum of row `R`, column `d`. -/
def term (y : S8704x2048.Idx → EReal) (w1 : S4x2048x8192.Idx → EReal) (w2 : S4x8192x2048.Idx → EReal) (R : Fin 8704) (d : Fin 2048) (j : Fin 8192) : EReal :=
  hid (fun e => y (ix2 R e)) (fun e => w1 (ix3 0 e j)) * hid (fun e => y (ix2 R e)) (fun e => w1 (ix3 0 e j)) * w2 (ix3 0 j d)

/-- The layer at row `R`, column `d`. -/
def layer (y : S8704x2048.Idx → EReal) (w1 : S4x2048x8192.Idx → EReal) (w2 : S4x8192x2048.Idx → EReal) (g b : S2048.Idx → EReal) (R : Fin 8704) (d : Fin 2048) : EReal :=
  norm (resid (fun e => y (ix2 R e)) fun e => ∑ j, term y w1 w2 R e j) (fun e => g (ix1 e)) (fun e => b (ix1 e)) d

section
variable (y : S8704x2048.Idx → EReal) (w1 : S4x2048x8192.Idx → EReal) (w2 : S4x8192x2048.Idx → EReal) (g b : S2048.Idx → EReal)

theorem ref_w1 (e : Fin 2048) (j : Fin 8192) : val_main_v1 (F := Ideal) w1 (ix2 e j) = w1 (ix3 0 e j) := by
  rw [val_main_v1_apply, val_main_v0_apply]
  refine congrArg w1 (funext fun a => Fin.ext ?_)
  match a with
  | ⟨0, _⟩ => rfl
  | ⟨1, _⟩ => show (e.val * 8192 + j.val) / 8192 % 2048 = e.val; omega
  | ⟨2, _⟩ => show (e.val * 8192 + j.val) % 8192 = j.val; omega

theorem ref_w2 (j : Fin 8192) (d : Fin 2048) : val_main_v8 (F := Ideal) w2 (ix2 j d) = w2 (ix3 0 j d) := by
  rw [val_main_v8_apply, val_main_v7_apply]
  refine congrArg w2 (funext fun a => Fin.ext ?_)
  match a with
  | ⟨0, _⟩ => rfl
  | ⟨1, _⟩ => show (j.val * 2048 + d.val) / 2048 % 8192 = j.val; omega
  | ⟨2, _⟩ => show (j.val * 2048 + d.val) % 2048 = d.val; omega

theorem ref_hid (R : Fin 8704) (j : Fin 8192) :
    val_main_v3 (F := Ideal) y w1 (ix2 R j) = hid (fun e => y (ix2 R e)) (fun e => w1 (ix3 0 e j)) := by
  rw [val_main_v3_apply, val_main_v2_apply, val_main_call0_v0_apply]
  unfold hid
  refine congrArg₂ max (Finset.sum_congr rfl fun e _ => ?_) Ideal.ofBits_zero_f32
  exact congrArg₂ (· * ·) (congrArg y (eq_ix2 _)) ((congrArg (val_main_v1 (F := Ideal) w1) (eq_ix2 _)).trans (ref_w1 w1 e j))

theorem ref_resid (R : Fin 8704) (d : Fin 2048) :
    val_main_v10 (F := Ideal) y w1 w2 (ix2 R d) = resid (fun e => y (ix2 R e)) (fun e => ∑ j, term y w1 w2 R e j) d := by
  rw [val_main_v10_apply, val_main_v5_apply, val_main_v4_apply, val_main_v9_apply]
  unfold resid
  refine congrArg₂ (· + ·) rfl (Finset.sum_congr rfl fun j _ => ?_)
  unfold term
  rw [val_main_v6_apply]
  refine congrArg₂ (· * ·) ?_ ((congrArg (val_main_v8 (F := Ideal) w2) (eq_ix2 _)).trans (ref_w2 w2 j d))
  have h := (congrArg (val_main_v3 (F := Ideal) y w1) (eq_ix2 (lidx_main_v9 (ix2 R d) j))).trans (ref_hid y w1 R j)
  exact congrArg₂ (· * ·) h h

theorem ref_mean (R : Fin 8704) :
    val_main_v14 (F := Ideal) y w1 w2 (ix2 R 0) = mean fun d => val_main_v10 (F := Ideal) y w1 w2 (ix2 R d) := by
  rw [val_main_v14_apply, val_main_v12_apply, val_main_v11_apply, val_main_v13_apply]
  unfold mean
  refine congrArg₂ Ideal.div ?_ rfl
  refine (congrArg₂ (· + ·) Ideal.ofBits_zero_f32 (Finset.sum_congr rfl fun d _ => ?_)).trans (zero_add _)
  exact congrArg (val_main_v10 (F := Ideal) y w1 w2) (eq_ix2 _)

theorem ref_dev (R : Fin 8704) (d : Fin 2048) :
    val_main_v16 (F := Ideal) y w1 w2 (ix2 R d)
      = val_main_v10 (F := Ideal) y w1 w2 (ix2 R d) - mean fun d => val_main_v10 (F := Ideal) y w1 w2 (ix2 R d) := by
  have e15 : val_main_v15 (F := Ideal) y w1 w2 (ix2 R d) = val_main_v14 (F := Ideal) y w1 w2 (ix2 R 0) := by
    rw [val_main_v15_apply]
    exact congrArg _ (eq_ix2 _)
  rw [val_main_v16_apply, e15, ref_mean]
  rfl

theorem ref_var (R : Fin 8704) :
    val_main_v21 (F := Ideal) y w1 w2 (ix2 R 0) = mean fun d => val_main_v16 (F := Ideal) y w1 w2 (ix2 R d) * val_main_v16 (F := Ideal) y w1 w2 (ix2 R d) := by
  rw [val_main_v21_apply, val_main_v19_apply, val_main_v18_apply, val_main_v20_apply]
  unfold mean
  refine congrArg₂ Ideal.div ?_ rfl
  refine (congrArg₂ (· + ·) Ideal.ofBits_zero_f32 (Finset.sum_congr rfl fun d _ => ?_)).trans (zero_add _)
  exact congrArg (val_main_v17 (F := Ideal) y w1 w2) (eq_ix2 _)

/-- The reference's first result. -/
theorem ref_layer (R : Fin 8704) (d : Fin 2048) : val_main_v34 (F := Ideal) y w1 w2 g b (ix2 R d) = layer y w1 w2 g b R d := by
  have e22 : val_main_v22 (F := Ideal) y w1 w2 (ix2 R d) = val_main_v14 (F := Ideal) y w1 w2 (ix2 R 0) := by
    rw [val_main_v22_apply]
    exact congrArg _ (eq_ix2 _)
  have e27 : val_main_v27 (F := Ideal) y w1 w2 (ix2 R d) = Ideal.rsqrt (val_main_v21 (F := Ideal) y w1 w2 (ix2 R 0) + Ideal.ofBits .f32 0x3727C5AC#32) := by
    rw [val_main_v27_apply, val_main_v26_apply, val_main_v25_apply, val_main_v24_apply]
    exact congrArg (fun i => Ideal.rsqrt (val_main_v21 (F := Ideal) y w1 w2 i + Ideal.ofBits .f32 0x3727C5AC#32)) (eq_ix2 _)
  have e30 : val_main_v30 (F := Ideal) g (ix2 R d) = g (ix1 d) := by
    rw [val_main_v30_apply, val_main_v29_apply]
    exact congrArg g (eq_ix1 _)
  have e33 : val_main_v33 (F := Ideal) b (ix2 R d) = b (ix1 d) := by
    rw [val_main_v33_apply, val_main_v32_apply]
    exact congrArg b (eq_ix1 _)
  rw [val_main_v34_apply, val_main_v31_apply, val_main_v28_apply, val_main_v23_apply, e22, e27, e30, e33, ref_var, ref_mean]
  simp only [ref_dev, ref_resid]
  rfl

/-- The second is the first, in the other format. -/
theorem ref_layer' (R : Fin 8704) (d : Fin 2048) : val_main_v35 (F := Ideal) y w1 w2 g b (ix2 R d) = layer y w1 w2 g b R d := by
  rw [val_main_v35_apply]
  exact ref_layer y w1 w2 g b R d

end

end Cert.Mlp
end
end
-- ==== Proof.MlpArr.lean ====
/- The MLP over the grid: what the accumulator and the block of rows hold after each point, and the two results. -/
module

public import proofs.«01_k».proof.Proof.MlpBlock
public import proofs.«01_k».proof.Proof.MlpRef
public import Idealize.ShloMosaic.Lib.Pipeline.ValueKit.Partial
public import Idealize.ShloMosaic.Lib.StableHlo.ReadAt

@[expose] public section

noncomputable section

namespace Cert.Mlp

open Idealize.ShloMosaic hiding ix1 ix2 ix3
open Idealize.ShloMosaic.ValueIdx Idealize.ShloMosaic.TcCoe Idealize.SL.Sem
open Cert.MlpIdeal Cert.MlpIdeal.Gen Cert.MlpIdeal.Facts Cert.Dense

variable (m : (ℓ : Loc nD τ sig) → Buf (Elt Ideal) ℓ)

theorem idx0 : ∀ t : Fin cfg0.N, win0_0.index t = ![t.val / 16, 0] := (by decide +kernel : ∀ t : Fin grid0.N, _)
theorem idx1 : ∀ t : Fin cfg0.N, win0_1.index t = ![0, 0, t.val % 16] := (by decide +kernel : ∀ t : Fin grid0.N, _)
theorem idx2 : ∀ t : Fin cfg0.N, win0_2.index t = ![0, t.val % 16, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 16, 0] := (by decide +kernel : ∀ t : Fin grid0.N, _)
theorem idx6 : ∀ t : Fin cfg0.N, win0_6.index t = ![t.val / 16, 0] := (by decide +kernel : ∀ t : Fin grid0.N, _)

/-- The five arguments. -/
abbrev argY (c : Dev nD) : S8704x2048.Idx → EReal := m ((c : Thread nD τ).loc main_arg0)
abbrev argU (c : Dev nD) : S4x2048x8192.Idx → EReal := m ((c : Thread nD τ).loc main_arg1)
abbrev argV (c : Dev nD) : S4x8192x2048.Idx → EReal := m ((c : Thread nD τ).loc main_arg2)
abbrev argG (c : Dev nD) : S2048.Idx → EReal := m ((c : Thread nD τ).loc main_arg3)
abbrev argB (c : Dev nD) : S2048.Idx → EReal := m ((c : Thread nD τ).loc main_arg4)

/-- The row of the array that row `r` of the block of point `n` is. -/
def row (n : ℕ) (hn : n < cfg0.N) (r : Fin 1088) : Fin 8704 :=
  ⟨n / 16 * 1088 + r.val, by have h : n < 128 := hn; omega⟩

/-- The hidden column that column `j` of the slice of point `n` is. -/
def hcol (n : ℕ) (j : Fin 512) : Fin 8192 := ⟨512 * (n % 16) + j.val, by omega⟩

theorem blk0 (c : Dev nD) (t : Fin cfg0.N) (r : Fin 1088) (d : Fin 2048) :
    iblk m c 0 t (ix2 r d) = argY m c (ix2 (row t.val t.isLt r) d) := by
  blk_simp [iblk]
  rw [V_main_arg0]
  exact congrArg (m ((c : Thread nD τ).loc main_arg0)) (by unfold row; blk_ext [idx0])

theorem blk1 (c : Dev nD) (t : Fin cfg0.N) (e : Fin 2048) (j : Fin 512) :
    iblk m c 1 t (ix3 0 e j) = argU m c (ix3 0 e (hcol t.val j)) := by
  blk_simp [iblk]
  rw [V_main_arg1]
  refine congrArg (m ((c : Thread nD τ).loc main_arg1)) ?_
  unfold hcol
  blk_ext [idx1]
  show t.val % 16 * 512 + j.val = 512 * (t.val % 16) + j.val
  omega

theorem blk2 (c : Dev nD) (t : Fin cfg0.N) (j : Fin 512) (d : Fin 2048) :
    iblk m c 2 t (ix3 0 j d) = argV m c (ix3 0 (hcol t.val j) d) := by
  blk_simp [iblk]
  rw [V_main_arg2]
  refine congrArg (m ((c : Thread nD τ).loc main_arg2)) ?_
  unfold hcol
  blk_ext [idx2]
  show t.val % 16 * 512 + j.val = 512 * (t.val % 16) + j.val
  omega

/-- The gain and the bias are the arguments, as one row. -/
theorem V_g (c : Dev nD) (e : Fin 2048) : V m c main_v0 (ix2 0 e) = argG m c (ix1 e) := by
  unfold_abbrev_sides
  after_reads_at
  refine congrArg (m ((c : Thread nD τ).loc main_arg3)) (ValueIdx.eq_ix1 _)

theorem V_b (c : Dev nD) (e : Fin 2048) : V m c main_v1 (ix2 0 e) = argB m c (ix1 e) := by
  unfold_abbrev_sides
  after_reads_at
  refine congrArg (m ((c : Thread nD τ).loc main_arg4)) (ValueIdx.eq_ix1 _)

theorem blk3 (c : Dev nD) (t : Fin cfg0.N) (e : Fin 2048) : iblk m c 3 t (ix2 0 e) = argG m c (ix1 e) := by
  refine Eq.trans ?_ (V_g m c e)
  blk_simp [iblk]
  exact congrArg (V m c main_v0) (by blk_ext [idx3])

theorem blk4 (c : Dev nD) (t : Fin cfg0.N) (e : Fin 2048) : iblk m c 4 t (ix2 0 e) = argB m c (ix1 e) := by
  refine Eq.trans ?_ (V_b m c e)
  blk_simp [iblk]
  exact congrArg (V m c main_v1) (by blk_ext [idx4])

/-- The terms of the feed-forward sum at a row and a column, by number. -/
def terms (c : Dev nD) (R : Fin 8704) (d : Fin 2048) : ℕ → EReal := ext (term (argY m c) (argU m c) (argV m c) R d)

/-- What a point adds: the terms of its slice of hidden columns. -/
theorem slice (c : Dev nD) (t : Fin cfg0.N) (ys : S1088x2048.Idx → EReal) (r : Fin 1088) (d : Fin 2048)
    (hy : ∀ e, ys (ix2 r e) = argY m c (ix2 (row t.val t.isLt r) e)) :
    (∑ j : Fin 512, hid (fun e => ys (ix2 r e)) (fun e => iblk m c 1 t (ix3 0 e j))
        * hid (fun e => ys (ix2 r e)) (fun e => iblk m c 1 t (ix3 0 e j)) * iblk m c 2 t (ix3 0 j d))
      = ∑ j ∈ Finset.range 512, terms m c (row t.val t.isLt r) d (512 * (t.val % 16) + j) := by
  rw [Finset.sum_range]
  refine Finset.sum_congr rfl fun j _ => ?_
  simp only [hy, blk1, blk2]
  exact (ext_of_lt (term (argY m c) (argU m c) (argV m c) (row t.val t.isLt r) d) (hcol t.val j).isLt).symm

/-- The accumulator after the slices below `k`. -/
def part (c : Dev nD) (R : Fin 8704) (d : Fin 2048) (k : ℕ) : EReal :=
  ∑ s ∈ Finset.range k, ∑ j ∈ Finset.range 512, terms m c R d (512 * s + j)

theorem part_all (c : Dev nD) (R : Fin 8704) (d : Fin 2048) :
    part m c R d 16 = ∑ j, term (argY m c) (argU m c) (argV m c) R d j :=
  (sum_blocks 512 _ 16).trans (sum_ext _)

/-- A point's feed-forward sum, from the accumulator it found. -/
theorem acc_step (c : Dev nD) (t : Fin cfg0.N) (ys acc : S1088x2048.Idx → EReal) (r : Fin 1088) (d : Fin 2048)
    (hy : ∀ e, ys (ix2 r e) = argY m c (ix2 (row t.val t.isLt r) e))
    (ha : acc (ix2 r d) = part m c (row t.val t.isLt r) d (t.val % 16)) :
    k0_pay3 (F := Ideal) ys (iblk m c 1 t) acc (iblk m c 2 t) (ix2 r d) = part m c (row t.val t.isLt r) d (t.val % 16 + 1) := by
  refine (pay3_apply ys (iblk m c 1 t) acc (iblk m c 2 t) r d).trans ?_
  rw [slice m c t ys r d hy, ha]
  exact (Finset.sum_range_succ _ _).symm

/-- After each point the kept rows are the argument's, and short of the last slice the accumulator holds the slices so far. -/
theorem inv (c : Dev nD) : ∀ (n : ℕ) (hn : n < cfg0.N),
    (∀ r e, (outsAt0 m c n hn).2.2 (ix2 r e) = argY m c (ix2 (row n hn r) e))
      ∧ (n % 16 ≠ 15 → ∀ r d, (outsAt0 m c n hn).1 (ix2 r d) = part m c (row n hn r) d (n % 16 + 1)) := by
  intro n
  induction n using Nat.strong_induction_on with
  | _ n ih =>
    intro hn
    by_cases h0 : n % 16 = 0
    · have h1 : ¬ n % 16 = 15 := by omega
      rw [outsAt0_A m c ⟨n, hn⟩ h0 h1]
      dsimp only
      rw [out_A, sout_A]
      refine ⟨fun r e => blk0 m c ⟨n, hn⟩ r e, fun _ r d => ?_⟩
      refine acc_step m c ⟨n, hn⟩ _ _ r d (fun e => blk0 m c ⟨n, hn⟩ r e) ?_
      show Ideal.ofBits .f32 0x00000000#32 = part m c _ d (n % 16)
      rw [h0, Ideal.ofBits_zero_f32]
      rfl
    · obtain ⟨i1, i2⟩ := ih (n - 1) (by omega) (by omega)
      have hr : ∀ r, row (n - 1) (by omega) r = row n hn r := fun r => Fin.ext (by
        show (n - 1) / 16 * 1088 + r.val = n / 16 * 1088 + r.val
        omega)
      simp only [hr] at i1 i2
      by_cases h1 : n % 16 = 15
      · rw [outsAt0_C m c ⟨n, hn⟩ h0 h1]
        exact ⟨i1, fun h => absurd h1 h⟩
      · rw [outsAt0_B m c ⟨n, hn⟩ h0 h1]
        dsimp only
        rw [out_B]
        refine ⟨i1, fun _ r d => acc_step m c ⟨n, hn⟩ _ _ r d (i1 r) ?_⟩
        refine (i2 (by omega) r d).trans (congrArg (part m c (row n hn r) d) ?_)
        show (n - 1) % 16 + 1 = n % 16
        omega

/-- The layer as an array. -/
def whole (c : Dev nD) : S8704x2048.Idx → EReal :=
  fun i => layer (argY m c) (argU m c) (argV m c) (argG m c) (argB m c) (i 0) (i 1)

/-- The rows a last point leaves are the layer's. -/
theorem last (c : Dev nD) (t : Fin cfg0.N) (h1 : t.val % 16 = 15) (ys acc : S1088x2048.Idx → EReal)
    (hy : ∀ r e, ys (ix2 r e) = argY m c (ix2 (row t.val t.isLt r) e))
    (ha : ∀ r d, acc (ix2 r d) = part m c (row t.val t.isLt r) d 15) (r : Fin 1088) (d : Fin 2048) :
    rows (iblk m c 0 t) (k0_pay3 (F := Ideal) ys (iblk m c 1 t) acc (iblk m c 2 t)) (iblk m c 3 t) (iblk m c 4 t) (ix2 r d)
      = whole m c (ix2 (row t.val t.isLt r) d) := by
  have hf : ∀ e, k0_pay3 (F := Ideal) ys (iblk m c 1 t) acc (iblk m c 2 t) (ix2 r e)
      = ∑ j, term (argY m c) (argU m c) (argV m c) (row t.val t.isLt r) e j := fun e => by
    rw [acc_step m c t ys acc r e (hy r) (by rw [h1]; exact ha r e), h1]
    exact part_all m c _ e
  unfold rows whole layer
  show norm (resid (fun e => iblk m c 0 t (ix2 r e)) fun e => k0_pay3 (F := Ideal) ys (iblk m c 1 t) acc (iblk m c 2 t) (ix2 r e))
    (fun e => iblk m c 3 t (ix2 0 e)) (fun e => iblk m c 4 t (ix2 0 e)) d = _
  simp only [hf, blk0, blk3, blk4]

theorem after5 (c : Dev nD) (t : Fin cfg0.N) (h1 : t.val % 16 = 15) (r : Fin 1088) (d : Fin 2048) :
    (dats m 0 c).after 5 t (ix2 r d) = whole m c (ix2 (row t.val t.isLt r) d)
      ∧ (dats m 0 c).after 6 t (ix2 r d) = whole m c (ix2 (row t.val t.isLt r) d) := by
  have hn := t.isLt
  obtain ⟨i1, i2⟩ := inv m c (t.val - 1) (by omega)
  have hr : ∀ r, row (t.val - 1) (by omega) r = row t.val t.isLt r := fun r => Fin.ext (by
    show (t.val - 1) / 16 * 1088 + r.val = t.val / 16 * 1088 + r.val
    omega)
  have hk : (t.val - 1) % 16 + 1 = 15 := by omega
  simp only [hr, hk] at i1 i2
  rw [after0_5, after0_6, outsAt0_C m c t (by omega) h1]
  dsimp only
  rw [out_C, out_C']
  exact ⟨last m c t h1 _ _ i1 (i2 (by omega)) r d, last m c t h1 _ _ i1 (i2 (by omega)) r d⟩

/-- The first result after the run. -/
theorem final5 (c : Dev nD) : (dats m 0 c).arrAt 5 cfg0.N = whole m c := by
  refine (dats m 0 c).arrAt_eq_of_covers 5 _ (by decide +kernel) fun t hf y => ?_
  have h0 : (y 0).val < 1088 := (y 0).isLt
  have h1 : (y 1).val < 2048 := (y 1).isLt
  blk_simp
  refine (congrArg ((dats m 0 c).after 5 t) (ValueIdx.eq_ix2 (n0 := 1088) (n1 := 2048) y)).trans
    ((after5 m c t ((flush0_5 t).mp hf) (y 0) (y 1)).1.trans (congrArg (whole m c) ?_))
  unfold row
  blk_ext [idx5]

/-- The second result after the run. -/
theorem final6 (c : Dev nD) : (dats m 0 c).arrAt 6 cfg0.N = whole m c := by
  refine (dats m 0 c).arrAt_eq_of_covers 6 _ (by decide +kernel) fun t hf y => ?_
  have h0 : (y 0).val < 1088 := (y 0).isLt
  have h1 : (y 1).val < 2048 := (y 1).isLt
  blk_simp
  refine (congrArg ((dats m 0 c).after 6 t) (ValueIdx.eq_ix2 (n0 := 1088) (n1 := 2048) y)).trans
    ((after5 m c t ((flush0_6 t).mp hf) (y 0) (y 1)).2.trans (congrArg (whole m c) ?_))
  unfold row
  blk_ext [idx6]

end Cert.Mlp
end
end
-- ==== Proof.MlpClaims.lean ====
/- The claims of the MLP: frames, the idealization, and the equality of kernel and reference. -/
module

public import proofs.«01_k».proof.Defs
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.MlpArr
public import Idealize.ShloMosaic.Lib.Quiescent

@[expose] public section

noncomputable section

namespace Cert.MlpClaims

open Idealize.ShloMosaic Idealize.SL.Sem Idealize.ShloMosaic.TcCoe

/-- The MLP kernel runs and keeps its arguments. -/
theorem kernel_frame : Cert.quiescent_Mlp (hMlp := Cert.Mlp.Gen.facts) :=
  fun m g _ => Cert.Mlp.Gen.frame m g

/-- The ideal MLP kernel runs and keeps its arguments. -/
theorem ideal_frame : Cert.quiescent_MlpIdeal (hMlpIdeal := Cert.MlpIdeal.Gen.facts) :=
  fun m g _ => Cert.MlpIdeal.Gen.frame m g

/-- The reference runs and keeps its arguments. -/
theorem reference_frame : Cert.quiescent_MlpReferenceIdeal (hMlpReferenceIdeal := Cert.MlpReferenceIdeal.Gen.facts) :=
  fun m g _ => (θ_run Cert.MlpReferenceIdeal.defs _ _).mono
    (fun r h => ⟨fun c => (h c).2.2, sem_eq_zero_of_no_sems (by decide) r.2⟩)
    (Cert.MlpReferenceIdeal.Value.run (F := Ideal) m g)

/-- No constant is named: the two kernels are the same text. -/
theorem preserves : Cert.preserves_Mlp_MlpIdeal := trivial

/-- Kernel and reference end with the same two results, from any arguments. -/
theorem algebraic : Cert.algebraic_MlpIdeal_MlpReferenceIdeal (hMlpIdeal := Cert.MlpIdeal.Gen.facts)
    (hMlpReferenceIdeal := Cert.MlpReferenceIdeal.Gen.facts) := by
  intro m g m' g' _ hagree
  refine ⟨_, _, Cert.MlpIdeal.Value.run_blocks (F := Ideal) m g, ?_⟩
  refine (θ_run Cert.MlpReferenceIdeal.defs _ _).mono (fun r h c => ?_) (Cert.MlpReferenceIdeal.Value.run (F := Ideal) m' g')
  obtain ⟨a0, a1, a2, a3, a4⟩ := hagree c
  obtain ⟨h0, h1, hk⟩ := h c
  refine ⟨h0.trans ?_, h1.trans ?_, hk⟩
  · rw [Cert.Mlp.final5, Cert.MlpReferenceIdeal.Read.val_main_v34_eq, a0, a1, a2, a3, a4]
    funext i
    exact (congrArg _ (ValueIdx.eq_ix2 i)).trans (Cert.Mlp.ref_layer _ _ _ _ _ (i 0) (i 1))
  · rw [Cert.Mlp.final6, Cert.MlpReferenceIdeal.Read.val_main_v35_eq, a0, a1, a2, a3, a4]
    funext i
    exact (congrArg _ (ValueIdx.eq_ix2 i)).trans (Cert.Mlp.ref_layer' _ _ _ _ _ (i 0) (i 1))

end Cert.MlpClaims

end
-- ==== Proof.Proj.lean ====
/- What the projection kernels share: a slice of weights as a matrix, a block that is written and read back, and the sum
   that a block of the result is. -/
module

public import proofs.«01_k».proof.Proof.Rows

@[expose] public section

noncomputable section

namespace Cert.Proj

open Idealize.ShloMosaic Idealize.ShloMosaic.ValueIdx Idealize.ShloMosaic.TcCoe Idealize.SL.Sem Cert.Dense

theorem z2 : (![0, 0] : Fin 2 → Nat) = fun _ => 0 := by decide
theorem z3 : (![0, 0, 0] : Fin 3 → Nat) = fun _ => 0 := by decide

/-- A slice of weights with one layer, as a matrix. -/
theorem slab_apply {K N : Nat} {α : Type} (w : (⟨3, ![1, K, N]⟩ : Shape).Idx → α)
    (h : (⟨3, ![1, K, N]⟩ : Shape).ShapeCasts ⟨2, ![K, N]⟩) (k : Fin K) (j : Fin N) :
    shapeCast ⟨2, ![K, N]⟩ w h (ix2 k j) = w (ix3 0 k j) := by
  refine shapeCast_apply _ _ _ (ix3 0 k j) ?_
  rw [Shape.rowMajor_val_two, Shape.rowMajor_val_three]
  show (0 * K + k.val) * N + j.val = k.val * N + j.val
  rw [Nat.zero_mul, Nat.zero_add]

/-- A whole block that is written and read back. -/
theorem back {M N : Nat} {e : EltTy} (z : (⟨2, ![M, N]⟩ : Shape).Idx → Elt Ideal e) (inb) :
    (fun j => View.canon (Val := Elt Ideal) [⟨Rect.unit (s := ⟨2, ![M, N]⟩) ![0, 0] ![M, N] inb, z⟩]
      ((Rect.unit (s := ⟨2, ![M, N]⟩) ![0, 0] ![M, N] inb).toLoadRect.idx j)) = z := by
  have h : View.canon (Val := Elt Ideal) [⟨Rect.unit (s := ⟨2, ![M, N]⟩) ![0, 0] ![M, N] inb, z⟩] = z :=
    View.canon_unit_zero (S := ⟨2, ![M, N]⟩) z2 inb z
  rw [h]
  exact View.ld_unit_zero (S := ⟨2, ![M, N]⟩) z2 inb z

/-- Row `r` of `x` times column `j` of the first layer of `w`. -/
def prod {M K L N : Nat} (x : (⟨2, ![M, K]⟩ : Shape).Idx → EReal) (w : (⟨3, ![L, K, N]⟩ : Shape).Idx → EReal) (l : Fin L) (r : Fin M) (j : Fin N) : EReal :=
  ∑ k : Fin K, x (ix2 r k) * w (ix3 l k j)

end Cert.Proj
end
end
-- ==== Proof.OutTile.lean ====
/- The output projection's arithmetic at an entry, and what its loop over 128 rows stores. -/
module

public import proofs.«01_k».proof.Proof.Gen.OutIdeal.Value
public import proofs.«01_k».proof.Proof.Proj

@[expose] public section

noncomputable section

namespace Cert.Out

open Idealize.ShloMosaic Idealize.ShloMosaic.ValueIdx Idealize.ShloMosaic.TcCoe Idealize.SL.Sem
open Cert.OutIdeal Cert.OutIdeal.Gen Cert.OutIdeal.Facts Cert.Dense Cert.Proj

/-- The accumulator starts from zero. -/
theorem pay1_apply (r : Fin 512) (d : Fin 2048) : k0_pay1 (F := Ideal) (ix2 r d) = 0 := by
  unfold k0_pay1
  rw [shapeCast_self, broadcast_apply]
  exact Ideal.ofBits_zero_f32

/-- A point adds the products of its half of the columns. -/
theorem pay2_apply (acc : FVec Ideal S512x2048 .f32) (x : FVec Ideal S512x1024 .bf16) (w : FVec Ideal S1x1024x2048 .bf16) (r : Fin 512) (d : Fin 2048) :
    k0_pay2 (F := Ideal) acc x w (ix2 r d) = acc (ix2 r d) + ∑ j : Fin 1024, x (ix2 r j) * w (ix3 0 j d) := by
  unfold k0_pay2
  have e1 : dot_S512x1024_S1024x2048_S512x2048_1_0_0_1_n_n = DotDims.plain 512 1024 2048 := rfl
  rw [e1, shapeCast_self, addf_apply]
  refine congrArg (acc (ix2 r d) + ·) ((dot_apply _ _ _ _ _ _).trans (Finset.sum_congr rfl fun j _ => ?_))
  exact congrArg (x (ix2 r j) * ·) (slab_apply w _ j d)

/-- 128 rows, normalised. -/
theorem pay3_apply (y f : FVec Ideal S128x2048 .f32) (g b : FVec Ideal S1x2048 .f32) (r : Fin 128) (d : Fin 2048) :
    k0_pay3 (F := Ideal) y f g b (ix2 r d)
      = norm (resid (fun e => y (ix2 r e)) fun e => f (ix2 r e)) (fun e => g (ix2 0 e)) (fun e => b (ix2 0 e)) d := by
  unfold k0_pay3
  dsimp only
  simp only [shapeCast_self]
  exact norm_apply _ g b _ _ _ _ _ _ _ rfl _ rfl r d

/-- The rows of a block once they are normalised. -/
def rows (y f : FVec Ideal S512x2048 .f32) (g b : FVec Ideal S1x2048 .f32) (x : S512x2048.Idx) : EReal :=
  norm (resid (fun e => y (ix2 (x 0) e)) fun e => f (ix2 (x 0) e)) (fun e => g (ix2 0 e)) (fun e => b (ix2 0 e)) (x 1)

/-- What a trip stores are the rows it covers. -/
theorem trip_apply (y f : Vec Ideal S512x2048 .f32) (g b : Vec Ideal S1x2048 .f32) (k : Nat) (off : Fin 2 → Nat) (ho : off = ![128 * k, 0]) (inb) (x : S128x2048.Idx) :
    k0_pay3 (F := Ideal) (View.ld (Val := Elt Ideal) (e' := .f32) y (Rect.unit (s := S512x2048) off ![128, 2048] inb))
        (View.ld (Val := Elt Ideal) (e' := .f32) f (Rect.unit (s := S512x2048) off ![128, 2048] inb)) g b x
      = rows y f g b ((Rect.unit (s := S512x2048) off ![128, 2048] inb).emb x) := by
  subst ho
  obtain ⟨r, d, rfl⟩ : ∃ r d, x = ix2 r d := ⟨x 0, x 1, eq_ix2 x⟩
  rw [pay3_apply]
  unfold rows
  have h1 : ((Rect.unit (s := S512x2048) ![128 * k, 0] ![128, 2048] inb).emb (ix2 r d)) 1 = d := Fin.ext (by
    show 0 + 1 * d.val = d.val
    omega)
  have hx : ∀ e : Fin 2048, (Rect.unit (s := S512x2048) ![128 * k, 0] ![128, 2048] inb).emb (ix2 r e)
      = ix2 (((Rect.unit (s := S512x2048) ![128 * k, 0] ![128, 2048] inb).emb (ix2 r d)) 0) e := by
    intro e
    refine funext fun a => Fin.ext ?_
    match a with
    | ⟨0, _⟩ => rfl
    | ⟨1, _⟩ =>
      show 0 + 1 * e.val = e.val
      omega
  rw [h1]
  exact congrArg₂ (fun u v : Fin 2048 → EReal => norm (resid u v) (fun e => g (ix2 0 e)) (fun e => b (ix2 0 e)) d)
    (funext fun e => congrArg y (hx e)) (funext fun e => congrArg f (hx e))

theorem off_eq : ∀ k : Fin k0_t1_loop.trips, k0_off1 k = ![128 * k.val, 0] := by decide +kernel

variable (c : Dev nD) (i : grid0.Coords) (arg2 : Memref sig .tc .vmem S512x1024 .bf16) (harg2 : arg2.IsWhole)
  (arg3 : Memref sig .tc .vmem S1x1024x2048 .bf16) (harg3 : arg3.IsWhole) (arg4 : Memref sig .tc .vmem S512x2048 .f32) (harg4 : arg4.IsWhole)
  (arg5 : Memref sig .tc .vmem S1x2048 .f32) (harg5 : arg5.IsWhole) (arg6 : Memref sig .tc .vmem S1x2048 .f32) (harg6 : arg6.IsWhole)
  (arg7 : Memref sig .tc .vmem S512x2048 .f32) (harg7 : arg7.IsWhole) (arg8 : Memref sig .tc .vmem S512x2048 .f32) (harg8 : arg8.IsWhole)
  (x0 : Vec Ideal S512x1024 .bf16) (x1 : Vec Ideal S1x1024x2048 .bf16) (x2 : Vec Ideal S512x2048 .f32) (x3 : Vec Ideal S1x2048 .f32) (x4 : Vec Ideal S1x2048 .f32)
  (xs0 : Vec Ideal S512x2048 .f32)

/-- The first point of a block leaves its half of the sum. -/
theorem sout_A (hc0 : cond0_0 i) (hc1 : ¬cond0_1 i) :
    sout0_A_0 (F := Ideal) c i arg2 harg2 arg3 harg3 arg4 harg4 arg5 harg5 arg6 harg6 arg7 harg7 arg8 harg8 hc0 hc1 x0 x1 x2 x3 x4
      = k0_pay2 (F := Ideal) (k0_pay1 (F := Ideal)) x0 x1 := by
  unfold sout0_A_0
  rw [View.read_writes_junk_eq_canon]
  unfold kernelRun0_A
  dsimp only
  sl_unfold_words
  simp only [View.readCov_eq_canon', View.readAt_eq_ld, harg2.read_unread, harg3.read_unread, View.ld_unit_zero (S := S512x1024) z2,
    View.ld_unit_zero (S := S1x1024x2048) z3]
  rw [View.canon_cons_unit_zero (S := S512x2048) (e := .f32) z2]
  exact congrArg (fun u => k0_pay2 (F := Ideal) u x0 x1) (back (M := 512) (N := 2048) (e := .f32) _ _)

/-- The stores of the first `k` trips are the normalised rows of the sum the accumulator holds. -/
theorem filled (h2 : k0_cond2 i = 1#1) (X8 : BufTy.Contents (Elt Ideal) arg8.view.ty) : ∀ k, k ≤ k0_t1_loop.trips →
    Rows.Filled (e := .f32) 128 (rows x2 (arg8.view.read (Elt Ideal) X8) x3 x4) k
      (pb_k0_t1 (F := Ideal) Variants.none c none i arg2 harg2 arg3 harg3 arg4 harg4 arg5 harg5 arg6 harg6 arg7 harg7 arg8 harg8 h2
        (harg4.unread x2) (harg5.unread x3) (harg6.unread x4) X8 k) := by
  intro k
  induction k with
  | zero => exact fun _ => Rows.nil 128 _
  | succ k ih =>
    intro hk
    have hs := pb_k0_t1_succ (F := Ideal) Variants.none c none i arg2 harg2 arg3 harg3 arg4 harg4 arg5 harg5 arg6 harg6 arg7 harg7 arg8 harg8 h2
      (harg4.unread x2) (harg5.unread x3) (harg6.unread x4) X8 ⟨k, hk⟩
    dsimp only at hs
    rw [hs]
    unfold tripL_k0_t1 trip_k0_t1
    refine (ih (Nat.le_of_succ_le hk)).cons _ (off_eq ⟨k, hk⟩) _ _ fun x => ?_
    simp only [View.readAt_eq_ld, harg4.read_unread, harg5.read_unread, harg6.read_unread, View.ld_unit_zero (S := S1x2048) z2]
    exact trip_apply x2 (arg8.view.read (Elt Ideal) X8) x3 x4 k _ (off_eq ⟨k, hk⟩) _ x

/-- The last point adds the other half and normalises the rows. -/
theorem out_B (hc0 : ¬cond0_0 i) (hc1 : cond0_1 i) :
    out0_B_5 (F := Ideal) c i arg2 harg2 arg3 harg3 arg4 harg4 arg5 harg5 arg6 harg6 arg7 harg7 arg8 harg8 hc0 hc1 x0 x1 x2 x3 x4 xs0
      = rows x2 (k0_pay2 (F := Ideal) xs0 x0 x1) x3 x4 := by
  unfold out0_B_5
  rw [View.read_writes_junk_eq_canon]
  unfold kernelRun0_B
  dsimp only
  sl_unfold_words
  have ht : Scf.trips (0#32) (Scalar.addi 0#32 4#32) 1#32 = 4 := by decide +kernel
  rw [ht]
  funext y
  have hc := (filled c i arg2 harg2 arg3 harg3 arg4 harg4 arg5 harg5 arg6 harg6 arg7 harg7 arg8 harg8 x2 x3 x4 hc1
    (arg8.view.writes (Elt Ideal) arg8.view.junk
      [⟨Rect.unit (s := S512x2048) ![0, 0] S512x2048.size inb_S512x2048_S512x2048_0_0, k0_pay2 (F := Ideal) xs0 x0 x1⟩]) 4 (by decide +kernel)).canon (Nat.le_refl 512) [] y
  rw [List.append_nil, View.read_writes_junk_eq_canon, View.canon_unit_zero (S := S512x2048) (e := .f32) z2] at hc
  simp only [View.readAt_eq_ld, harg2.read_unread, harg3.read_unread, harg8.read_unread, View.ld_unit_zero (S := S512x2048) z2,
    View.ld_unit_zero (S := S512x1024) z2, View.ld_unit_zero (S := S1x1024x2048) z3]
  exact hc

end Cert.Out
end
end
-- ==== Proof.OutRef.lean ====
/- The reference of the output projection at one entry. -/
module

public import proofs.«01_k».proof.Proof.Gen.OutReferenceIdeal.Read
public import proofs.«01_k».proof.Proof.Proj

@[expose] public section

noncomputable section

namespace Cert.Out

open Idealize.ShloMosaic Idealize.ShloMosaic.ValueIdx Idealize.ShloMosaic.TcCoe Idealize.SL.Sem
open Cert.OutReferenceIdeal Cert.OutReferenceIdeal.Read Cert.Dense Cert.Proj

/-- The layer at row `R`, column `d`: the projection over the residual, normalised. -/
def layer (x : S8704x2048.Idx → EReal) (w : S2x2048x2048.Idx → EReal) (y : S8704x2048.Idx → EReal) (g b : S2048.Idx → EReal) (R : Fin 8704) (d : Fin 2048) : EReal :=
  norm (resid (fun e => y (ix2 R e)) fun e => prod x w 0 R e) (fun e => g (ix1 e)) (fun e => b (ix1 e)) d

section
variable (x : S8704x2048.Idx → EReal) (w : S2x2048x2048.Idx → EReal) (y : S8704x2048.Idx → EReal) (g b : S2048.Idx → EReal)

theorem ref_w (k d : Fin 2048) : val_main_v4 (F := Ideal) w (ix2 k d) = w (ix3 0 k d) := by
  rw [val_main_v4_apply, val_main_v3_apply]
  refine congrArg w (funext fun a => Fin.ext ?_)
  match a with
  | ⟨0, _⟩ => rfl
  | ⟨1, _⟩ => show (k.val * 2048 + d.val) / 2048 % 2048 = k.val; omega
  | ⟨2, _⟩ => show (k.val * 2048 + d.val) % 2048 = d.val; omega

theorem ref_resid (R : Fin 8704) (d : Fin 2048) :
    val_main_v6 (F := Ideal) x w y (ix2 R d) = resid (fun e => y (ix2 R e)) (fun e => prod x w 0 R e) d := by
  rw [val_main_v6_apply, val_main_v1_apply, val_main_v0_apply, val_main_v5_apply]
  unfold resid prod
  refine congrArg₂ (· + ·) rfl (Finset.sum_congr rfl fun k _ => ?_)
  exact congrArg₂ (· * ·) (congrArg x (eq_ix2 _)) ((congrArg (val_main_v4 (F := Ideal) w) (eq_ix2 _)).trans (ref_w w k d))

theorem ref_mean (R : Fin 8704) :
    val_main_v10 (F := Ideal) x w y (ix2 R 0) = mean fun d => val_main_v6 (F := Ideal) x w y (ix2 R d) := by
  rw [val_main_v10_apply, val_main_v8_apply, val_main_v7_apply, val_main_v9_apply]
  unfold mean
  refine congrArg₂ Ideal.div ?_ rfl
  refine (congrArg₂ (· + ·) Ideal.ofBits_zero_f32 (Finset.sum_congr rfl fun d _ => ?_)).trans (zero_add _)
  exact congrArg (val_main_v6 (F := Ideal) x w y) (eq_ix2 _)

theorem ref_dev (R : Fin 8704) (d : Fin 2048) :
    val_main_v12 (F := Ideal) x w y (ix2 R d)
      = val_main_v6 (F := Ideal) x w y (ix2 R d) - mean fun d => val_main_v6 (F := Ideal) x w y (ix2 R d) := by
  have e11 : val_main_v11 (F := Ideal) x w y (ix2 R d) = val_main_v10 (F := Ideal) x w y (ix2 R 0) := by
    rw [val_main_v11_apply]
    exact congrArg _ (eq_ix2 _)
  rw [val_main_v12_apply, e11, ref_mean]
  rfl

theorem ref_var (R : Fin 8704) :
    val_main_v17 (F := Ideal) x w y (ix2 R 0) = mean fun d => val_main_v12 (F := Ideal) x w y (ix2 R d) * val_main_v12 (F := Ideal) x w y (ix2 R d) := by
  rw [val_main_v17_apply, val_main_v15_apply, val_main_v14_apply, val_main_v16_apply]
  unfold mean
  refine congrArg₂ Ideal.div ?_ rfl
  refine (congrArg₂ (· + ·) Ideal.ofBits_zero_f32 (Finset.sum_congr rfl fun d _ => ?_)).trans (zero_add _)
  exact congrArg (val_main_v13 (F := Ideal) x w y) (eq_ix2 _)

/-- The reference's result. -/
theorem ref_layer (R : Fin 8704) (d : Fin 2048) : val_main_v30 (F := Ideal) x w y g b (ix2 R d) = layer x w y g b R d := by
  have e18 : val_main_v18 (F := Ideal) x w y (ix2 R d) = val_main_v10 (F := Ideal) x w y (ix2 R 0) := by
    rw [val_main_v18_apply]
    exact congrArg _ (eq_ix2 _)
  have e23 : val_main_v23 (F := Ideal) x w y (ix2 R d) = Ideal.rsqrt (val_main_v17 (F := Ideal) x w y (ix2 R 0) + Ideal.ofBits .f32 0x3727C5AC#32) := by
    rw [val_main_v23_apply, val_main_v22_apply, val_main_v21_apply, val_main_v20_apply]
    exact congrArg (fun i => Ideal.rsqrt (val_main_v17 (F := Ideal) x w y i + Ideal.ofBits .f32 0x3727C5AC#32)) (eq_ix2 _)
  have e26 : val_main_v26 (F := Ideal) g (ix2 R d) = g (ix1 d) := by
    rw [val_main_v26_apply, val_main_v25_apply]
    exact congrArg g (eq_ix1 _)
  have e29 : val_main_v29 (F := Ideal) b (ix2 R d) = b (ix1 d) := by
    rw [val_main_v29_apply, val_main_v28_apply]
    exact congrArg b (eq_ix1 _)
  rw [val_main_v30_apply, val_main_v27_apply, val_main_v24_apply, val_main_v19_apply, e18, e23, e26, e29, ref_var, ref_mean]
  simp only [ref_dev, ref_resid]
  rfl

end

end Cert.Out
end
end
-- ==== Proof.OutArr.lean ====
/- The output projection over the grid: the accumulator after a first point, and the result after the run. -/
module

public import proofs.«01_k».proof.Proof.OutTile
public import proofs.«01_k».proof.Proof.OutRef
public import Idealize.ShloMosaic.Lib.Pipeline.ValueKit.Partial
public import Idealize.ShloMosaic.Lib.StableHlo.ReadAt

@[expose] public section

noncomputable section

namespace Cert.Out

open Idealize.ShloMosaic hiding ix1 ix2 ix3
open Idealize.ShloMosaic.ValueIdx Idealize.ShloMosaic.TcCoe Idealize.SL.Sem
open Cert.OutIdeal Cert.OutIdeal.Gen Cert.OutIdeal.Facts Cert.Dense Cert.Proj

variable (m : (ℓ : Loc nD τ sig) → Buf (Elt Ideal) ℓ)

theorem idx0 : ∀ t : Fin cfg0.N, win0_0.index t = ![t.val / 2, t.val % 2] := (by decide +kernel : ∀ t : Fin grid0.N, _)
theorem idx1 : ∀ t : Fin cfg0.N, win0_1.index t = ![0, t.val % 2, 0] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 2, 0] := (by decide +kernel : ∀ t : Fin grid0.N, _)

/-- The five arguments. -/
abbrev argX (c : Dev nD) : S8704x2048.Idx → EReal := m ((c : Thread nD τ).loc main_arg0)
abbrev argW (c : Dev nD) : S2x2048x2048.Idx → EReal := m ((c : Thread nD τ).loc main_arg1)
abbrev argY (c : Dev nD) : S8704x2048.Idx → EReal := m ((c : Thread nD τ).loc main_arg2)
abbrev argG (c : Dev nD) : S2048.Idx → EReal := m ((c : Thread nD τ).loc main_arg3)
abbrev argB (c : Dev nD) : S2048.Idx → EReal := m ((c : Thread nD τ).loc main_arg4)

/-- The row of the array that row `r` of the block of point `n` is. -/
def row (n : ℕ) (hn : n < cfg0.N) (r : Fin 512) : Fin 8704 := ⟨n / 2 * 512 + r.val, by have h : n < 34 := hn; omega⟩

/-- The column of `x` that column `j` of the half of point `n` is. -/
def half (n : ℕ) (j : Fin 1024) : Fin 2048 := ⟨1024 * (n % 2) + j.val, by omega⟩

theorem blk0 (c : Dev nD) (t : Fin cfg0.N) (r : Fin 512) (j : Fin 1024) :
    iblk m c 0 t (ix2 r j) = argX m c (ix2 (row t.val t.isLt r) (half t.val j)) := by
  blk_simp [iblk]
  rw [V_main_arg0]
  refine congrArg (m ((c : Thread nD τ).loc main_arg0)) ?_
  unfold row half
  blk_ext [idx0]
  show t.val % 2 * 1024 + j.val = 1024 * (t.val % 2) + j.val
  omega

/-- The weights the host casts are the argument's. -/
theorem V_w (c : Dev nD) (i : S2x2048x2048.Idx) : V m c main_v0 i = argW m c i := by
  unfold_abbrev_sides
  after_reads_at
  rfl

theorem blk1 (c : Dev nD) (t : Fin cfg0.N) (j : Fin 1024) (d : Fin 2048) :
    iblk m c 1 t (ix3 0 j d) = argW m c (ix3 0 (half t.val j) d) := by
  refine Eq.trans ?_ (V_w m c _)
  blk_simp [iblk]
  refine congrArg (V m c main_v0) ?_
  unfold half
  blk_ext [idx1]
  show t.val % 2 * 1024 + j.val = 1024 * (t.val % 2) + j.val
  omega

theorem blk2 (c : Dev nD) (t : Fin cfg0.N) (r : Fin 512) (d : Fin 2048) :
    iblk m c 2 t (ix2 r d) = argY m c (ix2 (row t.val t.isLt r) d) := by
  blk_simp [iblk]
  rw [V_main_arg2]
  exact congrArg (m ((c : Thread nD τ).loc main_arg2)) (by unfold row; blk_ext [idx2])

/-- The gain and the bias are the arguments, as one row. -/
theorem V_g (c : Dev nD) (e : Fin 2048) : V m c main_v1 (ix2 0 e) = argG m c (ix1 e) := by
  unfold_abbrev_sides
  after_reads_at
  refine congrArg (m ((c : Thread nD τ).loc main_arg3)) (ValueIdx.eq_ix1 _)

theorem V_b (c : Dev nD) (e : Fin 2048) : V m c main_v2 (ix2 0 e) = argB m c (ix1 e) := by
  unfold_abbrev_sides
  after_reads_at
  refine congrArg (m ((c : Thread nD τ).loc main_arg4)) (ValueIdx.eq_ix1 _)

theorem blk3 (c : Dev nD) (t : Fin cfg0.N) (e : Fin 2048) : iblk m c 3 t (ix2 0 e) = argG m c (ix1 e) := by
  refine Eq.trans ?_ (V_g m c e)
  blk_simp [iblk]
  exact congrArg (V m c main_v1) (by blk_ext [idx3])

theorem blk4 (c : Dev nD) (t : Fin cfg0.N) (e : Fin 2048) : iblk m c 4 t (ix2 0 e) = argB m c (ix1 e) := by
  refine Eq.trans ?_ (V_b m c e)
  blk_simp [iblk]
  exact congrArg (V m c main_v2) (by blk_ext [idx4])

/-- The terms of the product at a row and a column, by number. -/
def terms (c : Dev nD) (R : Fin 8704) (d : Fin 2048) : ℕ → EReal :=
  ext fun k : Fin 2048 => argX m c (ix2 R k) * argW m c (ix3 0 k d)

/-- The accumulator after the halves below `k`. -/
def part (c : Dev nD) (R : Fin 8704) (d : Fin 2048) (k : ℕ) : EReal :=
  ∑ s ∈ Finset.range k, ∑ j ∈ Finset.range 1024, terms m c R d (1024 * s + j)

theorem part_all (c : Dev nD) (R : Fin 8704) (d : Fin 2048) : part m c R d 2 = prod (argX m c) (argW m c) 0 R d :=
  (sum_blocks 1024 _ 2).trans (sum_ext _)

/-- What a point adds to the accumulator. -/
theorem acc_step (c : Dev nD) (t : Fin cfg0.N) (acc : S512x2048.Idx → EReal) (r : Fin 512) (d : Fin 2048)
    (ha : acc (ix2 r d) = part m c (row t.val t.isLt r) d (t.val % 2)) :
    k0_pay2 (F := Ideal) acc (iblk m c 0 t) (iblk m c 1 t) (ix2 r d) = part m c (row t.val t.isLt r) d (t.val % 2 + 1) := by
  refine (pay2_apply acc (iblk m c 0 t) (iblk m c 1 t) r d).trans ?_
  rw [ha]
  refine Eq.trans (congrArg (part m c (row t.val t.isLt r) d (t.val % 2) + ·) ?_) (Finset.sum_range_succ _ _).symm
  rw [Finset.sum_range]
  refine Finset.sum_congr rfl fun j _ => ?_
  rw [blk0, blk1]
  exact (ext_of_lt (fun k : Fin 2048 => argX m c (ix2 (row t.val t.isLt r) k) * argW m c (ix3 0 k d)) (half t.val j).isLt).symm

/-- A first point leaves the first half. -/
theorem first (c : Dev nD) (t : Fin cfg0.N) (h0 : t.val % 2 = 0) (r : Fin 512) (d : Fin 2048) :
    (outsAt0 m c t.val t.isLt).2 (ix2 r d) = part m c (row t.val t.isLt r) d 1 := by
  rw [outsAt0_A m c t h0 (by omega)]
  dsimp only
  rw [sout_A]
  refine (acc_step m c t _ r d ?_).trans (congrArg (part m c (row t.val t.isLt r) d) (by omega))
  rw [h0]
  exact pay1_apply r d

/-- The layer as an array. -/
def whole (c : Dev nD) : S8704x2048.Idx → EReal :=
  fun i => layer (argX m c) (argW m c) (argY m c) (argG m c) (argB m c) (i 0) (i 1)

/-- The rows a last point leaves are the layer's. -/
theorem after5 (c : Dev nD) (t : Fin cfg0.N) (h1 : t.val % 2 = 1) (r : Fin 512) (d : Fin 2048) :
    (dats m 0 c).after 5 t (ix2 r d) = whole m c (ix2 (row t.val t.isLt r) d) := by
  have hn := t.isLt
  have hp := first m c ⟨t.val - 1, by omega⟩ (by show (t.val - 1) % 2 = 0; omega)
  have hr : ∀ r, row (t.val - 1) (by omega) r = row t.val t.isLt r := fun r => Fin.ext (by
    show (t.val - 1) / 2 * 512 + r.val = t.val / 2 * 512 + r.val
    omega)
  simp only [hr] at hp
  rw [after0_5, outsAt0_B m c t (by omega) h1]
  dsimp only
  rw [out_B]
  generalize (outsAt0 m c (t.val - 1) _).2 = acc at hp ⊢
  have hf : ∀ e, k0_pay2 (F := Ideal) acc (iblk m c 0 t) (iblk m c 1 t) (ix2 r e) = prod (argX m c) (argW m c) 0 (row t.val t.isLt r) e := fun e => by
    rw [acc_step m c t acc r e (by rw [h1]; exact hp r e), h1]
    exact part_all m c _ e
  unfold rows whole layer
  show norm (resid (fun e => iblk m c 2 t (ix2 r e)) fun e => k0_pay2 (F := Ideal) acc (iblk m c 0 t) (iblk m c 1 t) (ix2 r e))
    (fun e => iblk m c 3 t (ix2 0 e)) (fun e => iblk m c 4 t (ix2 0 e)) d = _
  simp only [hf, blk2, blk3, blk4]

/-- The result after the run. -/
theorem final5 (c : Dev nD) : (dats m 0 c).arrAt 5 cfg0.N = whole m c := by
  refine (dats m 0 c).arrAt_eq_of_covers 5 _ (by decide +kernel) fun t hf y => ?_
  have h0 : (y 0).val < 512 := (y 0).isLt
  have h1 : (y 1).val < 2048 := (y 1).isLt
  blk_simp
  refine (congrArg ((dats m 0 c).after 5 t) (ValueIdx.eq_ix2 (n0 := 512) (n1 := 2048) y)).trans
    ((after5 m c t ((flush0_5 t).mp hf) (y 0) (y 1)).trans (congrArg (whole m c) ?_))
  unfold row
  blk_ext [idx5]

end Cert.Out
end
end
-- ==== Proof.OutClaims.lean ====
/- The claims of the output projection: frames, the idealization, and the equality of kernel and reference. -/
module

public import proofs.«01_k».proof.Defs
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.OutArr
public import Idealize.ShloMosaic.Lib.Quiescent

@[expose] public section

noncomputable section

namespace Cert.OutClaims

open Idealize.ShloMosaic Idealize.SL.Sem Idealize.ShloMosaic.TcCoe

/-- The projection kernel runs and keeps its arguments. -/
theorem kernel_frame : Cert.quiescent_Out (hOut := Cert.Out.Gen.facts) :=
  fun m g _ => Cert.Out.Gen.frame m g

/-- The ideal projection kernel runs and keeps its arguments. -/
theorem ideal_frame : Cert.quiescent_OutIdeal (hOutIdeal := Cert.OutIdeal.Gen.facts) :=
  fun m g _ => Cert.OutIdeal.Gen.frame m g

/-- The reference runs and keeps its arguments. -/
theorem reference_frame : Cert.quiescent_OutReferenceIdeal (hOutReferenceIdeal := Cert.OutReferenceIdeal.Gen.facts) :=
  fun m g _ => (θ_run Cert.OutReferenceIdeal.defs _ _).mono
    (fun r h => ⟨fun c => (h c).2, sem_eq_zero_of_no_sems (by decide) r.2⟩)
    (Cert.OutReferenceIdeal.Value.run (F := Ideal) m g)

/-- No constant is named: the two kernels are the same text. -/
theorem preserves : Cert.preserves_Out_OutIdeal := trivial

/-- Kernel and reference end with the same result, from any arguments. -/
theorem algebraic : Cert.algebraic_OutIdeal_OutReferenceIdeal (hOutIdeal := Cert.OutIdeal.Gen.facts)
    (hOutReferenceIdeal := Cert.OutReferenceIdeal.Gen.facts) := by
  intro m g m' g' _ hagree
  refine ⟨_, Cert.OutIdeal.Value.run_blocks (F := Ideal) m g, ?_⟩
  refine (θ_run Cert.OutReferenceIdeal.defs _ _).mono (fun r h c => ?_) (Cert.OutReferenceIdeal.Value.run (F := Ideal) m' g')
  obtain ⟨a0, a1, a2, a3, a4⟩ := hagree c
  obtain ⟨h0, hk⟩ := h c
  refine ⟨h0.trans ?_, hk⟩
  rw [Cert.Out.final5, Cert.OutReferenceIdeal.Read.val_main_v30_eq, a0, a1, a2, a3, a4]
  funext i
  exact (congrArg _ (ValueIdx.eq_ix2 i)).trans (Cert.Out.ref_layer _ _ _ _ _ (i 0) (i 1))

end Cert.OutClaims

end
-- ==== Proof.AInArr.lean ====
/- The input projection of mixer A: what a grid point leaves, what the buffer of weights holds, and the result after the run. -/
module

public import proofs.«01_k».proof.Proof.Gen.AInIdeal.Value
public import proofs.«01_k».proof.Proof.Gen.AInReferenceIdeal.Read
public import proofs.«01_k».proof.Proof.Proj
public import Idealize.ShloMosaic.Lib.Pipeline.ValueKit.Partial

@[expose] public section

noncomputable section

namespace Cert.AIn

open Idealize.ShloMosaic Idealize.ShloMosaic.ValueIdx Idealize.ShloMosaic.TcCoe Idealize.SL.Sem
open Cert.AInIdeal Cert.AInIdeal.Gen Cert.AInIdeal.Facts Cert.Dense Cert.Proj

/-- The weights kept for a column of blocks. -/
theorem pay1_apply (w : FVec Ideal S1x2048x1536 .f32) (k : Fin 2048) (j : Fin 1536) : k0_pay1 (F := Ideal) w (ix2 k j) = w (ix3 0 k j) := by
  unfold k0_pay1
  rw [shapeCast_self, truncf_apply]
  exact slab_apply w _ k j

/-- A block of the result. -/
theorem pay2_apply (x : FVec Ideal S512x2048 .f32) (v : FVec Ideal S2048x1536 .bf16) (r : Fin 512) (j : Fin 1536) :
    k0_pay2 (F := Ideal) x v (ix2 r j) = ∑ k : Fin 2048, x (ix2 r k) * v (ix2 k j) := by
  unfold k0_pay2
  have e1 : dot_S512x2048_S2048x1536_S512x1536_1_0_0_1_n_n = DotDims.plain 512 2048 1536 := rfl
  rw [e1]
  exact (dot_apply _ _ _ _ _ _).trans rfl

section
variable (c : Dev nD) (i : grid0.Coords) (arg2 : Memref sig .tc .vmem S512x2048 .f32) (harg2 : arg2.IsWhole)
  (arg3 : Memref sig .tc .vmem S1x2048x1536 .f32) (harg3 : arg3.IsWhole) (arg4 : Memref sig .tc .vmem S512x1536 .f32) (harg4 : arg4.IsWhole)
  (arg5 : Memref sig .tc .vmem S2048x1536 .bf16) (harg5 : arg5.IsWhole)
  (x0 : Vec Ideal S512x2048 .f32) (x1 : Vec Ideal S1x2048x1536 .f32) (xs0 : Vec Ideal S2048x1536 .bf16)

theorem sout_A (hc0 : cond0_0 i) :
    sout0_A_0 (F := Ideal) c i arg2 harg2 arg3 harg3 arg4 harg4 arg5 harg5 hc0 x0 x1 = k0_pay1 (F := Ideal) x1 := by
  unfold sout0_A_0
  rw [View.read_writes_junk_eq_canon]
  unfold kernelRun0_A
  dsimp only
  sl_unfold_words
  simp only [View.readAt_eq_ld, harg3.read_unread, View.ld_unit_zero (S := S1x2048x1536) z3]
  exact View.canon_unit_zero (S := S2048x1536) z2 _ _

theorem out_A (hc0 : cond0_0 i) :
    out0_A_2 (F := Ideal) c i arg2 harg2 arg3 harg3 arg4 harg4 arg5 harg5 hc0 x0 x1 = k0_pay2 (F := Ideal) x0 (k0_pay1 (F := Ideal) x1) := by
  unfold out0_A_2
  rw [View.read_writes_junk_eq_canon]
  unfold kernelRun0_A
  dsimp only
  sl_unfold_words
  simp only [View.readCov_eq_canon', View.readAt_eq_ld, harg2.read_unread, harg3.read_unread, View.ld_unit_zero (S := S512x2048) z2,
    View.ld_unit_zero (S := S1x2048x1536) z3]
  rw [View.canon_cons_unit_zero (S := S512x1536) (e := .f32) z2]
  exact congrArg (k0_pay2 (F := Ideal) x0) (back (M := 2048) (N := 1536) (e := .bf16) _ _)

theorem out_B (hc0 : ¬cond0_0 i) :
    out0_B_2 (F := Ideal) c i arg2 harg2 arg3 harg3 arg4 harg4 arg5 harg5 hc0 x0 x1 xs0 = k0_pay2 (F := Ideal) x0 xs0 := by
  unfold out0_B_2
  rw [View.read_writes_junk_eq_canon]
  unfold kernelRun0_B
  dsimp only
  sl_unfold_words
  simp only [View.readAt_eq_ld, harg2.read_unread, harg5.read_unread, View.ld_unit_zero (S := S512x2048) z2, View.ld_unit_zero (S := S2048x1536) z2]
  exact View.canon_unit_zero (S := S512x1536) z2 _ _

end

variable (m : (ℓ : Loc nD τ sig) → Buf (Elt Ideal) ℓ)

theorem idx0 : ∀ t : Fin cfg0.N, win0_0.index t = ![t.val % 17, 0] := (by decide +kernel : ∀ t : Fin grid0.N, _)
theorem idx1 : ∀ t : Fin cfg0.N, win0_1.index t = ![0, 0, t.val / 17] := (by decide +kernel : ∀ t : Fin grid0.N, _)
theorem idx2 : ∀ t : Fin cfg0.N, win0_2.index t = ![t.val % 17, t.val / 17] := (by decide +kernel : ∀ t : Fin grid0.N, _)

/-- The two arguments. -/
abbrev argX (c : Dev nD) : S8704x2048.Idx → EReal := m ((c : Thread nD τ).loc main_arg0)
abbrev argW (c : Dev nD) : S2x2048x6144.Idx → EReal := m ((c : Thread nD τ).loc main_arg1)

/-- The row and the column of the result that an entry of the block of point `n` is. -/
def row (n : ℕ) (r : Fin 512) : Fin 8704 := ⟨n % 17 * 512 + r.val, by omega⟩
def col (n : ℕ) (hn : n < cfg0.N) (j : Fin 1536) : Fin 6144 := ⟨n / 17 * 1536 + j.val, by have h : n < 68 := hn; omega⟩

theorem blk0 (c : Dev nD) (t : Fin cfg0.N) (r : Fin 512) (k : Fin 2048) : iblk m c 0 t (ix2 r k) = argX m c (ix2 (row t.val r) k) := by
  blk_simp [iblk]
  rw [V_main_arg0]
  exact congrArg (m ((c : Thread nD τ).loc main_arg0)) (by unfold row; blk_ext [idx0])

theorem blk1 (c : Dev nD) (t : Fin cfg0.N) (k : Fin 2048) (j : Fin 1536) :
    iblk m c 1 t (ix3 0 k j) = argW m c (ix3 0 k (col t.val t.isLt j)) := by
  blk_simp [iblk]
  rw [V_main_arg1]
  exact congrArg (m ((c : Thread nD τ).loc main_arg1)) (by unfold col; blk_ext [idx1])

/-- After each point the buffer holds the columns of weights of its column of blocks. -/
theorem inv (c : Dev nD) : ∀ (n : ℕ) (hn : n < cfg0.N) (k : Fin 2048) (j : Fin 1536),
    (outsAt0 m c n hn).2 (ix2 k j) = argW m c (ix3 0 k (col n hn j)) := by
  intro n
  induction n using Nat.strong_induction_on with
  | _ n ih =>
    intro hn k j
    by_cases h0 : n % 17 = 0
    · rw [outsAt0_A m c ⟨n, hn⟩ h0]
      dsimp only
      rw [sout_A]
      exact (pay1_apply _ k j).trans (blk1 m c ⟨n, hn⟩ k j)
    · have h := ih (n - 1) (by omega) (by omega) k j
      have e : col (n - 1) (by omega) j = col n hn j := Fin.ext (by
        show (n - 1) / 17 * 1536 + j.val = n / 17 * 1536 + j.val
        omega)
      rw [e] at h
      rw [outsAt0_B m c ⟨n, hn⟩ h0]
      exact h

/-- The product as an array. -/
def whole (c : Dev nD) : S8704x6144.Idx → EReal := fun i => prod (argX m c) (argW m c) 0 (i 0) (i 1)

theorem after2 (c : Dev nD) (t : Fin cfg0.N) (r : Fin 512) (j : Fin 1536) :
    (dats m 0 c).after 2 t (ix2 r j) = whole m c (ix2 (row t.val r) (col t.val t.isLt j)) := by
  have key : ∀ v : S2048x1536.Idx → EReal, (∀ k, v (ix2 k j) = argW m c (ix3 0 k (col t.val t.isLt j))) →
      k0_pay2 (F := Ideal) (iblk m c 0 t) v (ix2 r j) = whole m c (ix2 (row t.val r) (col t.val t.isLt j)) := fun v hv => by
    refine (pay2_apply (iblk m c 0 t) v r j).trans ?_
    simp only [blk0, hv]
    rfl
  rw [after0_2]
  by_cases h0 : t.val % 17 = 0
  · rw [outsAt0_A m c t h0]
    dsimp only
    rw [out_A]
    exact key _ fun k => (pay1_apply _ k j).trans (blk1 m c t k j)
  · have hs := inv m c t.val t.isLt
    rw [outsAt0_B m c t h0] at hs ⊢
    dsimp only at hs ⊢
    rw [out_B]
    exact key _ fun k => hs k j

/-- The result after the run. -/
theorem final2 (c : Dev nD) : (dats m 0 c).arrAt 2 cfg0.N = whole m c := by
  refine (dats m 0 c).arrAt_eq_of_covers 2 _ (by decide +kernel) fun t hf y => ?_
  have h0 : (y 0).val < 512 := (y 0).isLt
  have h1 : (y 1).val < 1536 := (y 1).isLt
  blk_simp
  refine (congrArg ((dats m 0 c).after 2 t) (eq_ix2 (n0 := 512) (n1 := 1536) y)).trans
    ((after2 m c t (y 0) (y 1)).trans (congrArg (whole m c) ?_))
  unfold row col
  blk_ext [idx2]

/-- The reference at an entry. -/
theorem ref_apply (x : S8704x2048.Idx → EReal) (w : S2x2048x6144.Idx → EReal) (R : Fin 8704) (j : Fin 6144) :
    Cert.AInReferenceIdeal.Read.val_main_v2 (F := Ideal) x w (ix2 R j) = prod x w 0 R j := by
  rw [Cert.AInReferenceIdeal.Read.val_main_v2_apply]
  refine Finset.sum_congr rfl fun k _ => congrArg₂ (· * ·) (congrArg x (eq_ix2 _)) ?_
  rw [Cert.AInReferenceIdeal.Read.val_main_v1_apply, Cert.AInReferenceIdeal.Read.val_main_v0_apply]
  refine congrArg w (funext fun a => Fin.ext ?_)
  match a with
  | ⟨0, _⟩ => rfl
  | ⟨1, _⟩ => show (k.val * 6144 + j.val) / 6144 % 2048 = k.val; omega
  | ⟨2, _⟩ => show (k.val * 6144 + j.val) % 6144 = j.val; omega

end Cert.AIn
end
end
-- ==== Proof.AInClaims.lean ====
/- The claims of the input projection of mixer A: frames, the idealization, and the equality of kernel and reference. -/
module

public import proofs.«01_k».proof.Defs
public import proofs.«01_k».proof.Proof.Gen.AIn
public import proofs.«01_k».proof.Proof.Gen.AIn.Frame
public import proofs.«01_k».proof.Proof.Gen.AInIdeal
public import proofs.«01_k».proof.Proof.Gen.AInIdeal.Frame
public import proofs.«01_k».proof.Proof.Gen.AInIdeal.Value
public import proofs.«01_k».proof.Proof.Gen.AInReferenceIdeal
public import proofs.«01_k».proof.Proof.Gen.AInReferenceIdeal.Run
public import proofs.«01_k».proof.Proof.Gen.AInReferenceIdeal.Read
public import proofs.«01_k».proof.Proof.AInArr
public import Idealize.ShloMosaic.Lib.Quiescent

@[expose] public section

noncomputable section

namespace Cert.AInClaims

open Idealize.ShloMosaic Idealize.SL.Sem Idealize.ShloMosaic.TcCoe

/-- The projection kernel runs and keeps its arguments. -/
theorem kernel_frame : Cert.quiescent_AIn (hAIn := Cert.AIn.Gen.facts) :=
  fun m g _ => Cert.AIn.Gen.frame m g

/-- The ideal projection kernel runs and keeps its arguments. -/
theorem ideal_frame : Cert.quiescent_AInIdeal (hAInIdeal := Cert.AInIdeal.Gen.facts) :=
  fun m g _ => Cert.AInIdeal.Gen.frame m g

/-- The reference runs and keeps its arguments. -/
theorem reference_frame : Cert.quiescent_AInReferenceIdeal (hAInReferenceIdeal := Cert.AInReferenceIdeal.Gen.facts) :=
  fun m g _ => (θ_run Cert.AInReferenceIdeal.defs _ _).mono
    (fun r h => ⟨fun c => (h c).2, sem_eq_zero_of_no_sems (by decide) r.2⟩)
    (Cert.AInReferenceIdeal.Value.run (F := Ideal) m g)

/-- No constant is named: the two kernels are the same text. -/
theorem preserves : Cert.preserves_AIn_AInIdeal := trivial

/-- Kernel and reference end with the same result, from any arguments. -/
theorem algebraic : Cert.algebraic_AInIdeal_AInReferenceIdeal (hAInIdeal := Cert.AInIdeal.Gen.facts)
    (hAInReferenceIdeal := Cert.AInReferenceIdeal.Gen.facts) := by
  intro m g m' g' _ hagree
  refine ⟨_, Cert.AInIdeal.Value.run_blocks (F := Ideal) m g, ?_⟩
  refine (θ_run Cert.AInReferenceIdeal.defs _ _).mono (fun r h c => ?_) (Cert.AInReferenceIdeal.Value.run (F := Ideal) m' g')
  obtain ⟨a0, a1⟩ := hagree c
  obtain ⟨h0, hk⟩ := h c
  refine ⟨h0.trans ?_, hk⟩
  rw [Cert.AIn.final2, a0, a1]
  refine (Cert.AInReferenceIdeal.Read.val_main_v2_eq _ _).trans ?_
  funext i
  exact (congrArg _ (ValueIdx.eq_ix2 i)).trans (Cert.AIn.ref_apply _ _ (i 0) (i 1))

end Cert.AInClaims

end
-- ==== Proof.CInArr.lean ====
/- The input projection of mixer C: what a grid point leaves, what the buffer of weights holds, and the result after the run. -/
module

public import proofs.«01_k».proof.Proof.Gen.CInIdeal.Value
public import proofs.«01_k».proof.Proof.Gen.CInReferenceIdeal.Read
public import proofs.«01_k».proof.Proof.Proj
public import Idealize.ShloMosaic.Lib.Pipeline.ValueKit.Partial

@[expose] public section

noncomputable section

namespace Cert.CIn

open Idealize.ShloMosaic Idealize.ShloMosaic.ValueIdx Idealize.ShloMosaic.TcCoe Idealize.SL.Sem
open Cert.CInIdeal Cert.CInIdeal.Gen Cert.CInIdeal.Facts Cert.Dense Cert.Proj

/-- The weights kept for a column of blocks. -/
theorem pay1_apply (w : FVec Ideal S1x2048x1536 .f32) (k : Fin 2048) (j : Fin 1536) : k0_pay1 (F := Ideal) w (ix2 k j) = w (ix3 0 k j) := by
  unfold k0_pay1
  rw [shapeCast_self, truncf_apply]
  exact slab_apply w _ k j

/-- A block of the result. -/
theorem pay2_apply (x : FVec Ideal S512x2048 .bf16) (v : FVec Ideal S2048x1536 .bf16) (r : Fin 512) (j : Fin 1536) :
    k0_pay2 (F := Ideal) x v (ix2 r j) = ∑ k : Fin 2048, x (ix2 r k) * v (ix2 k j) := by
  unfold k0_pay2
  have e1 : dot_S512x2048_S2048x1536_S512x1536_1_0_0_1_n_n = DotDims.plain 512 2048 1536 := rfl
  rw [e1]
  exact (dot_apply _ _ _ _ _ _).trans rfl

section
variable (c : Dev nD) (i : grid0.Coords) (arg2 : Memref sig .tc .vmem S512x2048 .bf16) (harg2 : arg2.IsWhole)
  (arg3 : Memref sig .tc .vmem S1x2048x1536 .f32) (harg3 : arg3.IsWhole) (arg4 : Memref sig .tc .vmem S512x1536 .f32) (harg4 : arg4.IsWhole)
  (arg5 : Memref sig .tc .vmem S2048x1536 .bf16) (harg5 : arg5.IsWhole)
  (x0 : Vec Ideal S512x2048 .bf16) (x1 : Vec Ideal S1x2048x1536 .f32) (xs0 : Vec Ideal S2048x1536 .bf16)

theorem sout_A (hc0 : cond0_0 i) :
    sout0_A_0 (F := Ideal) c i arg2 harg2 arg3 harg3 arg4 harg4 arg5 harg5 hc0 x0 x1 = k0_pay1 (F := Ideal) x1 := by
  unfold sout0_A_0
  rw [View.read_writes_junk_eq_canon]
  unfold kernelRun0_A
  dsimp only
  sl_unfold_words
  simp only [View.readAt_eq_ld, harg3.read_unread, View.ld_unit_zero (S := S1x2048x1536) z3]
  exact View.canon_unit_zero (S := S2048x1536) z2 _ _

theorem out_A (hc0 : cond0_0 i) :
    out0_A_2 (F := Ideal) c i arg2 harg2 arg3 harg3 arg4 harg4 arg5 harg5 hc0 x0 x1 = k0_pay2 (F := Ideal) x0 (k0_pay1 (F := Ideal) x1) := by
  unfold out0_A_2
  rw [View.read_writes_junk_eq_canon]
  unfold kernelRun0_A
  dsimp only
  sl_unfold_words
  simp only [View.readCov_eq_canon', View.readAt_eq_ld, harg2.read_unread, harg3.read_unread, View.ld_unit_zero (S := S512x2048) z2,
    View.ld_unit_zero (S := S1x2048x1536) z3]
  rw [View.canon_cons_unit_zero (S := S512x1536) (e := .f32) z2]
  exact congrArg (k0_pay2 (F := Ideal) x0) (back (M := 2048) (N := 1536) (e := .bf16) _ _)

theorem out_B (hc0 : ¬cond0_0 i) :
    out0_B_2 (F := Ideal) c i arg2 harg2 arg3 harg3 arg4 harg4 arg5 harg5 hc0 x0 x1 xs0 = k0_pay2 (F := Ideal) x0 xs0 := by
  unfold out0_B_2
  rw [View.read_writes_junk_eq_canon]
  unfold kernelRun0_B
  dsimp only
  sl_unfold_words
  simp only [View.readAt_eq_ld, harg2.read_unread, harg5.read_unread, View.ld_unit_zero (S := S512x2048) z2, View.ld_unit_zero (S := S2048x1536) z2]
  exact View.canon_unit_zero (S := S512x1536) z2 _ _

end

variable (m : (ℓ : Loc nD τ sig) → Buf (Elt Ideal) ℓ)

theorem idx0 : ∀ t : Fin cfg0.N, win0_0.index t = ![t.val % 17, 0] := (by decide +kernel : ∀ t : Fin grid0.N, _)
theorem idx1 : ∀ t : Fin cfg0.N, win0_1.index t = ![0, 0, t.val / 17] := (by decide +kernel : ∀ t : Fin grid0.N, _)
theorem idx2 : ∀ t : Fin cfg0.N, win0_2.index t = ![t.val % 17, t.val / 17] := (by decide +kernel : ∀ t : Fin grid0.N, _)

/-- The two arguments. -/
abbrev argX (c : Dev nD) : S8704x2048.Idx → EReal := m ((c : Thread nD τ).loc main_arg0)
abbrev argW (c : Dev nD) : S1x2048x12352.Idx → EReal := m ((c : Thread nD τ).loc main_arg1)

/-- A column of the result among the columns of weights. -/
def up (j : Fin 12288) : Fin 12352 := ⟨j.val, by omega⟩

/-- The row and the column of the result that an entry of the block of point `n` is. -/
def row (n : ℕ) (r : Fin 512) : Fin 8704 := ⟨n % 17 * 512 + r.val, by omega⟩
def col (n : ℕ) (hn : n < cfg0.N) (j : Fin 1536) : Fin 12288 := ⟨n / 17 * 1536 + j.val, by have h : n < 136 := hn; omega⟩

theorem blk0 (c : Dev nD) (t : Fin cfg0.N) (r : Fin 512) (k : Fin 2048) : iblk m c 0 t (ix2 r k) = argX m c (ix2 (row t.val r) k) := by
  blk_simp [iblk]
  rw [V_main_arg0]
  exact congrArg (m ((c : Thread nD τ).loc main_arg0)) (by unfold row; blk_ext [idx0])

theorem blk1 (c : Dev nD) (t : Fin cfg0.N) (k : Fin 2048) (j : Fin 1536) :
    X0_1 m c t (ix3 0 k j) = argW m c (ix3 0 k (up (col t.val t.isLt j))) := by
  unfold X0_1 Pipeline.Window.fill
  rw [dif_pos (moved0_1 t _)]
  blk_simp [iblk]
  rw [V_main_arg1]
  exact congrArg (m ((c : Thread nD τ).loc main_arg1)) (by unfold up col; blk_ext [idx1])

/-- After each point the buffer holds the columns of weights of its column of blocks. -/
theorem inv (c : Dev nD) : ∀ (n : ℕ) (hn : n < cfg0.N) (k : Fin 2048) (j : Fin 1536),
    (outsAt0 m c n hn).2 (ix2 k j) = argW m c (ix3 0 k (up (col n hn j))) := by
  intro n
  induction n using Nat.strong_induction_on with
  | _ n ih =>
    intro hn k j
    by_cases h0 : n % 17 = 0
    · rw [outsAt0_A m c ⟨n, hn⟩ h0]
      dsimp only
      rw [sout_A]
      exact (pay1_apply _ k j).trans (blk1 m c ⟨n, hn⟩ k j)
    · have h := ih (n - 1) (by omega) (by omega) k j
      have e : col (n - 1) (by omega) j = col n hn j := Fin.ext (by
        show (n - 1) / 17 * 1536 + j.val = n / 17 * 1536 + j.val
        omega)
      rw [e] at h
      rw [outsAt0_B m c ⟨n, hn⟩ h0]
      exact h

/-- The product as an array. -/
def whole (c : Dev nD) : S8704x12288.Idx → EReal := fun i => prod (argX m c) (argW m c) 0 (i 0) (up (i 1))

theorem after2 (c : Dev nD) (t : Fin cfg0.N) (r : Fin 512) (j : Fin 1536) :
    (dats m 0 c).after 2 t (ix2 r j) = whole m c (ix2 (row t.val r) (col t.val t.isLt j)) := by
  have key : ∀ v : S2048x1536.Idx → EReal, (∀ k, v (ix2 k j) = argW m c (ix3 0 k (up (col t.val t.isLt j)))) →
      k0_pay2 (F := Ideal) (iblk m c 0 t) v (ix2 r j) = whole m c (ix2 (row t.val r) (col t.val t.isLt j)) := fun v hv => by
    refine (pay2_apply (iblk m c 0 t) v r j).trans ?_
    simp only [blk0, hv]
    rfl
  rw [after0_2]
  by_cases h0 : t.val % 17 = 0
  · rw [outsAt0_A m c t h0]
    dsimp only
    rw [out_A]
    exact key _ fun k => (pay1_apply _ k j).trans (blk1 m c t k j)
  · have hs := inv m c t.val t.isLt
    rw [outsAt0_B m c t h0] at hs ⊢
    dsimp only at hs ⊢
    rw [out_B]
    exact key _ fun k => hs k j

/-- The result after the run. -/
theorem final2 (c : Dev nD) : (dats m 0 c).arrAt 2 cfg0.N = whole m c := by
  refine (dats m 0 c).arrAt_eq_of_covers 2 _ (by decide +kernel) fun t hf y => ?_
  have h0 : (y 0).val < 512 := (y 0).isLt
  have h1 : (y 1).val < 1536 := (y 1).isLt
  blk_simp
  refine (congrArg ((dats m 0 c).after 2 t) (eq_ix2 (n0 := 512) (n1 := 1536) y)).trans
    ((after2 m c t (y 0) (y 1)).trans (congrArg (whole m c) ?_))
  unfold row col
  blk_ext [idx2]

/-- The reference at an entry. -/
theorem ref_apply (x : S8704x2048.Idx → EReal) (w : S1x2048x12352.Idx → EReal) (R : Fin 8704) (j : Fin 12288) :
    Cert.CInReferenceIdeal.Read.val_main_v3 (F := Ideal) x w (ix2 R j) = prod x w 0 R (up j) := by
  rw [Cert.CInReferenceIdeal.Read.val_main_v3_apply]
  refine Finset.sum_congr rfl fun k _ => congrArg₂ (· * ·) (congrArg x (eq_ix2 _)) ?_
  rw [Cert.CInReferenceIdeal.Read.val_main_v2_apply, Cert.CInReferenceIdeal.Read.val_main_v1_apply]
  refine congrArg w (funext fun a => Fin.ext ?_)
  match a with
  | ⟨0, _⟩ => rfl
  | ⟨1, _⟩ => show (k.val * 12288 + j.val) / 12288 % 2048 = k.val; omega
  | ⟨2, _⟩ => show (k.val * 12288 + j.val) % 12288 = j.val; omega

end Cert.CIn
end
end
-- ==== Proof.CInClaims.lean ====
/- The claims of the input projection of mixer C: frames, the idealization, and the equality of kernel and reference. -/
module

public import proofs.«01_k».proof.Defs
public import proofs.«01_k».proof.Proof.Gen.CIn
public import proofs.«01_k».proof.Proof.Gen.CIn.Frame
public import proofs.«01_k».proof.Proof.Gen.CInIdeal
public import proofs.«01_k».proof.Proof.Gen.CInIdeal.Frame
public import proofs.«01_k».proof.Proof.Gen.CInIdeal.Value
public import proofs.«01_k».proof.Proof.Gen.CInReferenceIdeal
public import proofs.«01_k».proof.Proof.Gen.CInReferenceIdeal.Run
public import proofs.«01_k».proof.Proof.Gen.CInReferenceIdeal.Read
public import proofs.«01_k».proof.Proof.CInArr
public import Idealize.ShloMosaic.Lib.Quiescent

@[expose] public section

noncomputable section

namespace Cert.CInClaims

open Idealize.ShloMosaic Idealize.SL.Sem Idealize.ShloMosaic.TcCoe

/-- The projection kernel runs and keeps its arguments. -/
theorem kernel_frame : Cert.quiescent_CIn (hCIn := Cert.CIn.Gen.facts) :=
  fun m g _ => Cert.CIn.Gen.frame m g

/-- The ideal projection kernel runs and keeps its arguments. -/
theorem ideal_frame : Cert.quiescent_CInIdeal (hCInIdeal := Cert.CInIdeal.Gen.facts) :=
  fun m g _ => Cert.CInIdeal.Gen.frame m g

/-- The reference runs and keeps its arguments. -/
theorem reference_frame : Cert.quiescent_CInReferenceIdeal (hCInReferenceIdeal := Cert.CInReferenceIdeal.Gen.facts) :=
  fun m g _ => (θ_run Cert.CInReferenceIdeal.defs _ _).mono
    (fun r h => ⟨fun c => (h c).2, sem_eq_zero_of_no_sems (by decide) r.2⟩)
    (Cert.CInReferenceIdeal.Value.run (F := Ideal) m g)

/-- No constant is named: the two kernels are the same text. -/
theorem preserves : Cert.preserves_CIn_CInIdeal := trivial

/-- Kernel and reference end with the same result, from any arguments. -/
theorem algebraic : Cert.algebraic_CInIdeal_CInReferenceIdeal (hCInIdeal := Cert.CInIdeal.Gen.facts)
    (hCInReferenceIdeal := Cert.CInReferenceIdeal.Gen.facts) := by
  intro m g m' g' _ hagree
  refine ⟨_, Cert.CInIdeal.Value.run_blocks (F := Ideal) m g, ?_⟩
  refine (θ_run Cert.CInReferenceIdeal.defs _ _).mono (fun r h c => ?_) (Cert.CInReferenceIdeal.Value.run (F := Ideal) m' g')
  obtain ⟨a0, a1⟩ := hagree c
  obtain ⟨h0, hk⟩ := h c
  refine ⟨h0.trans ?_, hk⟩
  rw [Cert.CIn.final2, a0, a1]
  refine (Cert.CInReferenceIdeal.Read.val_main_v3_eq _ _).trans ?_
  funext i
  exact (congrArg _ (ValueIdx.eq_ix2 i)).trans (Cert.CIn.ref_apply _ _ (i 0) (i 1))

end Cert.CInClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.AIn
public import proofs.«01_k».proof.Proof.Gen.AIn.Skeleton
public import proofs.«01_k».proof.Proof.Gen.AIn.Launch
public import proofs.«01_k».proof.Proof.Gen.AIn.Points
public import proofs.«01_k».proof.Proof.Gen.AIn.Frame
public import proofs.«01_k».proof.Proof.Gen.AInIdeal
public import proofs.«01_k».proof.Proof.Gen.AInIdeal.Skeleton
public import proofs.«01_k».proof.Proof.Gen.AInIdeal.Launch
public import proofs.«01_k».proof.Proof.Gen.AInIdeal.Points
public import proofs.«01_k».proof.Proof.Gen.AInIdeal.Frame
public import proofs.«01_k».proof.Proof.Gen.AInIdeal.Value
public import proofs.«01_k».proof.Proof.Gen.AInReferenceIdeal
public import proofs.«01_k».proof.Proof.Gen.AInReferenceIdeal.Run
public import proofs.«01_k».proof.Proof.Gen.AInReferenceIdeal.Read
public import proofs.«01_k».proof.Proof.Gen.CIn
public import proofs.«01_k».proof.Proof.Gen.CIn.Skeleton
public import proofs.«01_k».proof.Proof.Gen.CIn.Launch
public import proofs.«01_k».proof.Proof.Gen.CIn.Points
public import proofs.«01_k».proof.Proof.Gen.CIn.Frame
public import proofs.«01_k».proof.Proof.Gen.CInIdeal
public import proofs.«01_k».proof.Proof.Gen.CInIdeal.Skeleton
public import proofs.«01_k».proof.Proof.Gen.CInIdeal.Launch
public import proofs.«01_k».proof.Proof.Gen.CInIdeal.Points
public import proofs.«01_k».proof.Proof.Gen.CInIdeal.Frame
public import proofs.«01_k».proof.Proof.Gen.CInIdeal.Value
public import proofs.«01_k».proof.Proof.Gen.CInReferenceIdeal
public import proofs.«01_k».proof.Proof.Gen.CInReferenceIdeal.Run
public import proofs.«01_k».proof.Proof.Gen.CInReferenceIdeal.Read
public import proofs.«01_k».proof.Proof.Claims
public import proofs.«01_k».proof.Proof.MlpClaims
public import proofs.«01_k».proof.Proof.OutClaims
public import proofs.«01_k».proof.Proof.AInClaims
public import proofs.«01_k».proof.Proof.CInClaims
public import Idealize.ShloMosaic.Adequacy
public import Idealize.ShloMosaic.Init

@[expose] public section

noncomputable section

namespace Cert.Proof

open Idealize.ShloMosaic Idealize.SL.Sem Cert.Kernel

/-- The claims of the prompt attention, the feed-forward part and the projections. -/
theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.Out.Gen.facts, Cert.OutIdeal.Gen.facts, Cert.OutReferenceIdeal.Gen.facts,
    Cert.AIn.Gen.facts, Cert.AInIdeal.Gen.facts, Cert.AInReferenceIdeal.Gen.facts,
    Cert.CIn.Gen.facts, Cert.CInIdeal.Gen.facts, Cert.CInReferenceIdeal.Gen.facts,
    Cert.Pre.facts, Cert.Claims.kernel_frame, Cert.Claims.ideal_frame, Cert.Claims.ideal_frame_pre, Cert.Claims.reference_frame,
    Cert.Claims.reference_frame_pre,
    Cert.MlpClaims.kernel_frame, Cert.MlpClaims.ideal_frame, Cert.MlpClaims.reference_frame,
    Cert.OutClaims.kernel_frame, Cert.OutClaims.ideal_frame, Cert.OutClaims.reference_frame,
    Cert.AInClaims.kernel_frame, Cert.AInClaims.ideal_frame, Cert.AInClaims.reference_frame,
    Cert.CInClaims.kernel_frame, Cert.CInClaims.ideal_frame, Cert.CInClaims.reference_frame,
    Cert.Claims.preserves, Cert.Claims.algebraic,
    Cert.MlpClaims.preserves, Cert.MlpClaims.algebraic,
    Cert.OutClaims.preserves, Cert.OutClaims.algebraic,
    Cert.AInClaims.preserves, Cert.AInClaims.algebraic,
    Cert.CInClaims.preserves, Cert.CInClaims.algebraic⟩

end Cert.Proof

end
